-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane_w [hPre_sane_w : Cert.Pre_sane_w.Facts] (m : (ℓ : Loc Cert.KernelIdeal.nD Cert.KernelIdeal.τ Cert.KernelIdeal.sig) → Buf (Elt Ideal) ℓ) : Prop :=
  ∀ c : Dev Cert.KernelIdeal.nD,
    (Cert.Pre_sane_w.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane_w [hPre_sane_w : Cert.Pre_sane_w.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane_w.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sane_w [hKernelIdeal : Cert.KernelIdeal.Facts] [hPre_sane_w : Cert.Pre_sane_w.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane_w m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sane_w [hReferenceIdeal : Cert.ReferenceIdeal.Facts] [hPre_sane_w : Cert.Pre_sane_w.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane_w m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_sane_w [hKernelIdeal : Cert.KernelIdeal.Facts] [hReferenceIdeal : Cert.ReferenceIdeal.Facts] [hPre_sane_w : Cert.Pre_sane_w.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane_w m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sane_w : Cert.Pre_sane_w.Facts),
    quiescent_Kernel (hKernel := hKernel)
    ∧ quiescent_KernelIdeal (hKernelIdeal := hKernelIdeal)
    ∧ quiescent_KernelIdeal_pre_sane_w (hKernelIdeal := hKernelIdeal) (hPre_sane_w := hPre_sane_w)
    ∧ quiescent_ReferenceIdeal (hReferenceIdeal := hReferenceIdeal)
    ∧ quiescent_ReferenceIdeal_pre_sane_w (hReferenceIdeal := hReferenceIdeal) (hPre_sane_w := hPre_sane_w)
    ∧ preserves_Kernel_KernelIdeal
    ∧ algebraic_KernelIdeal_ReferenceIdeal_pre_sane_w (hKernelIdeal := hKernelIdeal) (hReferenceIdeal := hReferenceIdeal) (hPre_sane_w := hPre_sane_w)
-- ==== Pre_sane_w.lean ====
abbrev S6x256x3584 : Shape := ⟨3, ![6, 256, 3584]⟩
abbrev S6x256 : Shape := ⟨2, ![6, 256]⟩
abbrev S6x256x18944 : Shape := ⟨3, ![6, 256, 18944]⟩
abbrev S18944x3584 : Shape := ⟨2, ![18944, 3584]⟩
abbrev S18944 : Shape := ⟨1, ![18944]⟩
abbrev S18944x448 : Shape := ⟨2, ![18944, 448]⟩
abbrev S_ : Shape := ⟨0, ![]⟩

class Facts : Prop where
  natLt_8_32 : 8 < 32
  bcast_S_S18944x3584 : S_.BroadcastsInDim S18944x3584 (![] : Fin 0 → Fin S18944x3584.rank)
  reducesTo_S18944x3584_S_d0_1 : S18944x3584.ReducesTo [0, 1] S_
  h_S_ : 0 < S_.numel
  bcast_S_S18944 : S_.BroadcastsInDim S18944 (![] : Fin 0 → Fin S18944.rank)
  reducesTo_S18944_S_d0 : S18944.ReducesTo [0] S_

variable [Facts]

def fn {F : FTy → Type} [FloatOps F] (main_arg0 : FVec F S6x256x3584 .fp8e4m3) (main_arg1 : FVec F S6x256 .f32) (main_arg2 : FVec F S6x256x18944 .fp8e5m2) (main_arg3 : FVec F S6x256 .f32) (main_arg4 : IVec S18944x3584 8) (main_arg5 : FVec F S18944 .f32) (main_arg6 : IVec S18944x448 8) : IVec S_ 1 :=
  let main_v0 : IVec S18944x3584 32 := (extui 32 · natLt_8_32) main_arg4
  let main_c : IVec S_ 32 := constantI S_ 32 127#32
  let main_v1 : IVec S18944x3584 32 := broadcastInDim S18944x3584 ![] bcast_S_S18944x3584 main_c
  let main_v2 : IVec S18944x3584 32 := andi main_v0 main_v1
  let main_c_0 : IVec S_ 32 := constantI S_ 32 127#32
  let main_v3 : IVec S18944x3584 32 := broadcastInDim S18944x3584 ![] bcast_S_S18944x3584 main_c_0
  let main_v4 : IVec S18944x3584 1 := cmpi .ne main_v2 main_v3
  let main_c_1 : IVec S_ 1 := constantI S_ 1 1#1
  let main_v5 : IVec S_ 1 := (fun x v => Host.reduce IntOp.andi x v reducesTo_S18944x3584_S_d0_1 h_S_) main_v4 main_c_1
  let main_cst : FVec F S_ .f32 := constant S_ .f32 0x00000000#32
  let main_v6 : FVec F S18944 .f32 := broadcastInDim S18944 ![] bcast_S_S18944 main_cst
  let main_v7 : IVec S18944 1 := cmpf .oge main_arg5 main_v6
  let main_c_2 : IVec S_ 1 := constantI S_ 1 1#1
  let main_v8 : IVec S_ 1 := (fun x v => Host.reduce IntOp.andi x v reducesTo_S18944_S_d0 h_S_) main_v7 main_c_2
  let main_v9 : IVec S_ 1 := andi main_v5 main_v8
  main_v9
-- ==== Kernel.lean ====
abbrev S6x256x3584 : Shape := ⟨3, ![6, 256, 3584]⟩
abbrev S6x256 : Shape := ⟨2, ![6, 256]⟩
abbrev S6x256x18944 : Shape := ⟨3, ![6, 256, 18944]⟩
abbrev S18944x3584 : Shape := ⟨2, ![18944, 3584]⟩
abbrev S18944 : Shape := ⟨1, ![18944]⟩
abbrev S18944x448 : Shape := ⟨2, ![18944, 448]⟩
abbrev S1536x18944 : Shape := ⟨2, ![1536, 18944]⟩
abbrev S1x1536 : Shape := ⟨2, ![1, 1536]⟩
abbrev S1536x14x8x32 : Shape := ⟨4, ![1536, 14, 8, 32]⟩
abbrev S14x32x8x1536 : Shape := ⟨4, ![14, 32, 8, 1536]⟩
abbrev S3584x1536 : Shape := ⟨2, ![3584, 1536]⟩
abbrev S37x128x4 : Shape := ⟨3, ![37, 128, 4]⟩
abbrev S37x4x128 : Shape := ⟨3, ![37, 4, 128]⟩
abbrev S592x112 : Shape := ⟨2, ![592, 112]⟩
abbrev S18944x112 : Shape := ⟨2, ![18944, 112]⟩
abbrev S1536x512 : Shape := ⟨2, ![1536, 512]⟩
abbrev S512x3584 : Shape := ⟨2, ![512, 3584]⟩
abbrev S512x448 : Shape := ⟨2, ![512, 448]⟩
abbrev S1x4x128 : Shape := ⟨3, ![1, 4, 128]⟩
abbrev S16x112 : Shape := ⟨2, ![16, 112]⟩
abbrev S512x112 : Shape := ⟨2, ![512, 112]⟩
abbrev S4x448x128 : Shape := ⟨3, ![4, 448, 128]⟩
abbrev S448x128 : Shape := ⟨2, ![448, 128]⟩
abbrev S4x112x128 : Shape := ⟨3, ![4, 112, 128]⟩
abbrev S512x128 : Shape := ⟨2, ![512, 128]⟩
abbrev S128x128 : Shape := ⟨2, ![128, 128]⟩
abbrev S1x128x128 : Shape := ⟨3, ![1, 128, 128]⟩
abbrev S512x64 : Shape := ⟨2, ![512, 64]⟩
abbrev S128x64 : Shape := ⟨2, ![128, 64]⟩
abbrev S64x128 : Shape := ⟨2, ![64, 128]⟩
abbrev S1x64x128 : Shape := ⟨3, ![1, 64, 128]⟩
abbrev S8x128 : Shape := ⟨2, ![8, 128]⟩
abbrev S1x128 : Shape := ⟨2, ![1, 128]⟩
abbrev S32x128 : Shape := ⟨2, ![32, 128]⟩
abbrev S4x128 : Shape := ⟨2, ![4, 128]⟩
abbrev S16x128 : Shape := ⟨2, ![16, 128]⟩
abbrev S256x1536 : Shape := ⟨2, ![256, 1536]⟩
abbrev S1536x256 : Shape := ⟨2, ![1536, 256]⟩
abbrev S256x256 : Shape := ⟨2, ![256, 256]⟩
abbrev S1x8x128 : Shape := ⟨3, ![1, 8, 128]⟩
abbrev S1x112x128 : Shape := ⟨3, ![1, 112, 128]⟩
abbrev S112x128 : Shape := ⟨2, ![112, 128]⟩
abbrev S128x112 : Shape := ⟨2, ![128, 112]⟩
abbrev S4x32x112 : Shape := ⟨3, ![4, 32, 112]⟩
abbrev S4x112 : Shape := ⟨2, ![4, 112]⟩
abbrev S1x1x128 : Shape := ⟨3, ![1, 1, 128]⟩
abbrev S16x8x112 : Shape := ⟨3, ![16, 8, 112]⟩

abbrev nBuf : Space → Nat
  | .hbm => 19
  | .vmem => 24
  | .smem => 0
  | _ => 0

abbrev bufTy : (tb : Table) → Fin (tcTables nBuf tb) → BufTy
  | .hbm, ⟨0, _⟩ => ⟨S6x256x3584, .fp8e4m3⟩
  | .hbm, ⟨1, _⟩ => ⟨S6x256, .f32⟩
  | .hbm, ⟨2, _⟩ => ⟨S6x256x18944, .fp8e5m2⟩
  | .hbm, ⟨3, _⟩ => ⟨S6x256, .f32⟩
  | .hbm, ⟨4, _⟩ => ⟨S18944x3584, .i8⟩
  | .hbm, ⟨5, _⟩ => ⟨S18944, .f32⟩
  | .hbm, ⟨6, _⟩ => ⟨S18944x448, .i8⟩
  | .hbm, ⟨7, _⟩ => ⟨S1536x18944, .fp8e5m2⟩
  | .hbm, ⟨8, _⟩ => ⟨S6x256, .f32⟩
  | .hbm, ⟨9, _⟩ => ⟨S1x1536, .f32⟩
  | .hbm, ⟨10, _⟩ => ⟨S1536x14x8x32, .fp8e4m3⟩
  | .hbm, ⟨11, _⟩ => ⟨S14x32x8x1536, .fp8e4m3⟩
  | .hbm, ⟨12, _⟩ => ⟨S3584x1536, .fp8e4m3⟩
  | .hbm, ⟨13, _⟩ => ⟨S37x128x4, .f32⟩
  | .hbm, ⟨14, _⟩ => ⟨S37x4x128, .f32⟩
  | .hbm, ⟨15, _⟩ => ⟨S592x112, .f32⟩
  | .hbm, ⟨16, _⟩ => ⟨S18944x112, .f32⟩
  | .hbm, ⟨17, _⟩ => ⟨S592x112, .f32⟩
  | .hbm, ⟨18, _⟩ => ⟨S592x112, .f32⟩
  | .local _ .vmem, ⟨0, _⟩ => ⟨S3584x1536, .fp8e4m3⟩
  | .local _ .vmem, ⟨1, _⟩ => ⟨S1x1536, .f32⟩
  | .local _ .vmem, ⟨2, _⟩ => ⟨S1536x512, .fp8e5m2⟩
  | .local _ .vmem, ⟨3, _⟩ => ⟨S1536x512, .fp8e5m2⟩
  | .local _ .vmem, ⟨4, _⟩ => ⟨S512x3584, .i8⟩
  | .local _ .vmem, ⟨5, _⟩ => ⟨S512x3584, .i8⟩
  | .local _ .vmem, ⟨6, _⟩ => ⟨S512x448, .i8⟩
  | .local _ .vmem, ⟨7, _⟩ => ⟨S512x448, .i8⟩
  | .local _ .vmem, ⟨8, _⟩ => ⟨S1x4x128, .f32⟩
  | .local _ .vmem, ⟨9, _⟩ => ⟨S1x4x128, .f32⟩
  | .local _ .vmem, ⟨10, _⟩ => ⟨S16x112, .f32⟩
  | .local _ .vmem, ⟨11, _⟩ => ⟨S16x112, .f32⟩
  | .local _ .vmem, ⟨12, _⟩ => ⟨S512x112, .f32⟩
  | .local _ .vmem, ⟨13, _⟩ => ⟨S512x112, .f32⟩
  | .local _ .vmem, ⟨14, _⟩ => ⟨S16x112, .f32⟩
  | .local _ .vmem, ⟨15, _⟩ => ⟨S16x112, .f32⟩
  | .local _ .vmem, ⟨16, _⟩ => ⟨S16x112, .f32⟩
  | .local _ .vmem, ⟨17, _⟩ => ⟨S16x112, .f32⟩
  | .local _ .vmem, ⟨18, _⟩ => ⟨S4x448x128, .i32⟩
  | .local _ .vmem, ⟨19, _⟩ => ⟨S448x128, .i32⟩
  | .local _ .vmem, ⟨20, _⟩ => ⟨S4x112x128, .f32⟩
  | .local _ .vmem, ⟨21, _⟩ => ⟨S4x112x128, .f32⟩
  | .local _ .vmem, ⟨22, _⟩ => ⟨S448x128, .f32⟩
  | .local _ .vmem, ⟨23, _⟩ => ⟨S448x128, .f32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3584x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x112 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x112 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x112 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x112 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6x256x3584 : Shape := ⟨3, ![6, 256, 3584]⟩
abbrev S6x256 : Shape := ⟨2, ![6, 256]⟩
abbrev S6x256x18944 : Shape := ⟨3, ![6, 256, 18944]⟩
abbrev S18944x3584 : Shape := ⟨2, ![18944, 3584]⟩
abbrev S18944 : Shape := ⟨1, ![18944]⟩
abbrev S18944x448 : Shape := ⟨2, ![18944, 448]⟩
abbrev S18944x448x1 : Shape := ⟨3, ![18944, 448, 1]⟩
abbrev S8 : Shape := ⟨1, ![8]⟩
abbrev S1x1x8 : Shape := ⟨3, ![1, 1, 8]⟩
abbrev S18944x448x8 : Shape := ⟨3, ![18944, 448, 8]⟩
abbrev S_ : Shape := ⟨0, ![]⟩
abbrev S1536x3584 : Shape := ⟨2, ![1536, 3584]⟩
abbrev S1536x1 : Shape := ⟨2, ![1536, 1]⟩
abbrev S1536x18944 : Shape := ⟨2, ![1536, 18944]⟩
abbrev S18944x1 : Shape := ⟨2, ![18944, 1]⟩
abbrev S18944x112x32 : Shape := ⟨3, ![18944, 112, 32]⟩
abbrev S592x112 : Shape := ⟨2, ![592, 112]⟩
abbrev S18944x112 : Shape := ⟨2, ![18944, 112]⟩
abbrev S18944x1536 : Shape := ⟨2, ![18944, 1536]⟩
abbrev S592x32x112 : Shape := ⟨3, ![592, 32, 112]⟩

abbrev nBuf : Space → Nat
  | .hbm => 27
  | .vmem => 11
  | .smem => 0
  | _ => 0

abbrev bufTy : (tb : Table) → Fin (tcTables nBuf tb) → BufTy
  | .hbm, ⟨0, _⟩ => ⟨S6x256x3584, .fp8e4m3⟩
  | .hbm, ⟨1, _⟩ => ⟨S6x256, .f32⟩
  | .hbm, ⟨2, _⟩ => ⟨S6x256x18944, .fp8e5m2⟩
  | .hbm, ⟨3, _⟩ => ⟨S6x256, .f32⟩
  | .hbm, ⟨4, _⟩ => ⟨S18944x3584, .i8⟩
  | .hbm, ⟨5, _⟩ => ⟨S18944, .f32⟩
  | .hbm, ⟨6, _⟩ => ⟨S18944x448, .i8⟩
  | .hbm, ⟨7, _⟩ => ⟨S18944x448, .i32⟩
  | .hbm, ⟨8, _⟩ => ⟨S18944x448x1, .i32⟩
  | .hbm, ⟨9, _⟩ => ⟨S8, .i32⟩
  | .hbm, ⟨10, _⟩ => ⟨S1x1x8, .i32⟩
  | .hbm, ⟨11, _⟩ => ⟨S18944x448x8, .i32⟩
  | .hbm, ⟨12, _⟩ => ⟨S18944x448x8, .i32⟩
  | .hbm, ⟨13, _⟩ => ⟨S18944x448x8, .i32⟩
  | .hbm, ⟨14, _⟩ => ⟨S_, .i32⟩
  | .hbm, ⟨15, _⟩ => ⟨S18944x448x8, .i32⟩
  | .hbm, ⟨16, _⟩ => ⟨S18944x448x8, .i32⟩
  | .hbm, ⟨17, _⟩ => ⟨S1536x3584, .fp8e4m3⟩
  | .hbm, ⟨18, _⟩ => ⟨S1536x1, .f32⟩
  | .hbm, ⟨19, _⟩ => ⟨S1536x18944, .fp8e5m2⟩
  | .hbm, ⟨20, _⟩ => ⟨S1536x1, .f32⟩
  | .hbm, ⟨21, _⟩ => ⟨S18944x1, .f32⟩
  | .hbm, ⟨22, _⟩ => ⟨S18944x112x32, .i32⟩
  | .hbm, ⟨23, _⟩ => ⟨S592x112, .f32⟩
  | .hbm, ⟨24, _⟩ => ⟨S18944x112, .f32⟩
  | .hbm, ⟨25, _⟩ => ⟨S592x112, .f32⟩
  | .hbm, ⟨26, _⟩ => ⟨S592x112, .f32⟩
  | .local _ .vmem, ⟨0, _⟩ => ⟨S1536x3584, .fp8e4m3⟩
  | .local _ .vmem, ⟨1, _⟩ => ⟨S1536x1, .f32⟩
  | .local _ .vmem, ⟨2, _⟩ => ⟨S1536x18944, .fp8e5m2⟩
  | .local _ .vmem, ⟨3, _⟩ => ⟨S1536x1, .f32⟩
  | .local _ .vmem, ⟨4, _⟩ => ⟨S18944x3584, .i8⟩
  | .local _ .vmem, ⟨5, _⟩ => ⟨S18944x1, .f32⟩
  | .local _ .vmem, ⟨6, _⟩ => ⟨S18944x112x32, .i32⟩
  | .local _ .vmem, ⟨7, _⟩ => ⟨S592x112, .f32⟩
  | .local _ .vmem, ⟨8, _⟩ => ⟨S18944x112, .f32⟩
  | .local _ .vmem, ⟨9, _⟩ => ⟨S592x112, .f32⟩
  | .local _ .vmem, ⟨10, _⟩ => ⟨S592x112, .f32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18944 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18944x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18944x112x32 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S592x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18944x112 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S592x112 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S592x112 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pay.lean ====
/- The values one loop trip of the kernel stores, as short functions of the blocks it loads: a mask word's active bytes, the masked weights
   of one 32-row tile of a block column, the masked product rows of one group of block columns. -/
module
public import proofs.«01_k».proof.Proof.Gen.KernelIdeal
@[expose] public section
noncomputable section
namespace Cert.KernelIdeal.Pay
open Cert.KernelIdeal Cert.KernelIdeal.Gen Idealize.ShloMosaic Idealize.ShloMosaic.TcCoe Idealize.SL.Sem
open Cert.KernelIdeal.Facts
variable {F : FTy → Type} [FloatOps F]

theorem wslice_ok : ∀ n : Fin 16, S128x128.Slices ![8 * n.val, 0] S8x128 := by decide
theorem rslice_ok : ∀ (n : Fin 32) (g : Fin 2), S256x256.Slices ![8 * n.val, 128 * g.val] S8x128 := by decide

/-- `f 0`, then `f 1`, … `f n` folded in from the left. -/
def chain {V : Type} (op : V → V → V) (f : ℕ → V) : ℕ → V
  | 0 => f 0
  | n + 1 => op (chain op f n) (f (n + 1))

/-- 0x7F on every byte of an [8, 128] tile whose weight is active: row `p` of the tile reads bit `p` of every byte of the mask word. -/
def keep (sub : IVec S8x128 32) (mb : Vec F S1x128 .i32) : IVec S8x128 32 :=
  have bit : IVec S8x128 32 := andi (shrui (broadcastTo S8x128 (shapeCast S1x128 mb shapeCasts_S1x128_S1x128) broadcasts_S1x128_S8x128) sub)
    (broadcast S8x128 16843009#32)
  subi (shli bit (broadcast S8x128 7#32)) bit

/-- Rows 8n to 8n + 7 of a tile of weight words. -/
def wslice (w : Vec F S512x128 .i8) (n : Fin 16) : IVec S8x128 32 :=
  extractStridedSlice S8x128 ![8 * n.val, 0]
    (transpose S128x128 [1, 0] (bitcast S128x128 32 w bitcasts_S512x128_w8_S128x128_w32) transposes_S128x128_p1_0_S128x128) (wslice_ok n)

/-- The active weights' magnitudes, an inactive one as zero. -/
def wZero (sub : IVec S8x128 32) (w : Vec F S512x128 .i8) (n : Fin 16) (mb : Vec F S1x128 .i32) : FVec F S32x128 .f32 :=
  extf .f32 (bitcastToFloat .fp8e4m3 (bitcast S32x128 8 (andi (wslice (F := F) w n) (keep (F := F) sub mb)) bitcasts_S8x128_w32_S32x128_w8)) bitsLt_fp8e4m3_f32

/-- The active weights' magnitudes, an inactive one as the greatest finite code. -/
def wTop (sub : IVec S8x128 32) (w : Vec F S512x128 .i8) (n : Fin 16) (mb : Vec F S1x128 .i32) : FVec F S32x128 .bf16 :=
  extf .bf16 (bitcastToFloat .fp8e4m3 (bitcast S32x128 8 (ori (andi (wslice (F := F) w n) (keep (F := F) sub mb))
    (andi (broadcast S8x128 2122219134#32) (xori (keep (F := F) sub mb) (constantI S8x128 32 4294967295#32)))) bitcasts_S8x128_w32_S32x128_w8))
    bitsLt_fp8e4m3_bf16

/-- The four rows of partial sums of one block column: row `b` adds up the rows congruent to `b` modulo four. -/
def sumFour (s : FVec F S32x128 .f32) : FVec F S4x128 .f32 :=
  have s8 : FVec F S8x128 .f32 := addf
    (addf (extractStridedSlice S8x128 ![0, 0] s slices_S32x128_o0_0_S8x128) (extractStridedSlice S8x128 ![8, 0] s slices_S32x128_o8_0_S8x128))
    (addf (extractStridedSlice S8x128 ![16, 0] s slices_S32x128_o16_0_S8x128) (extractStridedSlice S8x128 ![24, 0] s slices_S32x128_o24_0_S8x128))
  addf (extractStridedSlice S4x128 ![0, 0] s8 slices_S8x128_o0_0_S4x128) (extractStridedSlice S4x128 ![4, 0] s8 slices_S8x128_o4_0_S4x128)

/-- The four rows of minima of one block column. -/
def minFour (s : FVec F S32x128 .bf16) : FVec F S4x128 .f32 :=
  have m16 : FVec F S16x128 .f32 := extf .f32 (minimumf (extractStridedSlice S16x128 ![0, 0] s slices_S32x128_o0_0_S16x128)
    (extractStridedSlice S16x128 ![16, 0] s slices_S32x128_o16_0_S16x128)) bitsLt_bf16_f32
  have m8 : FVec F S8x128 .f32 := minimumf (extractStridedSlice S8x128 ![0, 0] m16 slices_S16x128_o0_0_S8x128)
    (extractStridedSlice S8x128 ![8, 0] m16 slices_S16x128_o8_0_S8x128)
  minimumf (extractStridedSlice S4x128 ![0, 0] m8 slices_S8x128_o0_0_S4x128) (extractStridedSlice S4x128 ![4, 0] m8 slices_S8x128_o4_0_S4x128)

/-- Row `n` of the sixteen 8-row slices of a tile, as an index. -/
abbrev sl (i : Fin 4) (t : ℕ) : Fin 16 := ⟨(4 * i.val + t) % 16, Nat.mod_lt _ (by decide)⟩

/-- What a trip stores into `wsum_s` for one tile of four block columns. -/
def sumTile (sub : IVec S8x128 32) (w : Vec F S512x128 .i8) (mb : Fin 4 → ℕ → Vec F S1x128 .i32) : FVec F S16x128 .f32 :=
  have c (i : Fin 4) : FVec F S4x128 .f32 := sumFour (chain addf (fun t => wZero sub w (sl i t) (mb i t)) 3)
  shapeCast S16x128 (concatenate S16x128 0 [⟨S4x128, c 0⟩, ⟨S4x128, c 1⟩, ⟨S4x128, c 2⟩, ⟨S4x128, c 3⟩]
    concatenates_S4x128_S4x128_S4x128_S4x128_S16x128_d0) shapeCasts_S16x128_S16x128

/-- What a trip stores into `wmin_s` for one tile of four block columns. -/
def minTile (sub : IVec S8x128 32) (w : Vec F S512x128 .i8) (mb : Fin 4 → ℕ → Vec F S1x128 .i32) : FVec F S16x128 .f32 :=
  have c (i : Fin 4) : FVec F S4x128 .f32 := minFour (chain minimumf (fun t => wTop sub w (sl i t) (mb i t)) 3)
  shapeCast S16x128 (concatenate S16x128 0 [⟨S4x128, c 0⟩, ⟨S4x128, c 1⟩, ⟨S4x128, c 2⟩, ⟨S4x128, c 3⟩]
    concatenates_S4x128_S4x128_S4x128_S4x128_S16x128_d0) shapeCasts_S16x128_S16x128

/-- One product: 256 rows of activations against 256 columns of gradients. -/
def prod (x : Vec F S256x1536 .fp8e4m3) (sc : Vec F S1x1536 .f32) (dy : Vec F S1536x256 .fp8e5m2) : FVec F S256x256 .f32 :=
  matmul dot_S256x1536_S1536x256_S256x256_1_0_0_1_n_n none
    (truncf .bf16 (mulf (extf .f32 (shapeCast S256x1536 x shapeCasts_S256x1536_S256x1536) bitsLt_fp8e4m3_f32)
      (broadcastTo S256x1536 (shapeCast S1x1536 sc shapeCasts_S1x1536_S1x1536) broadcasts_S1x1536_S256x1536)) bitsLt_bf16_f32)
    (shapeCast S1536x256 dy shapeCasts_S1536x256_S1536x256) (constant S256x256 .f32 0x00000000#32)

/-- The `m`-th masked magnitude of a group: eight rows of the product, zero where the mask is active. -/
def term (res : FVec F S256x256 .f32) (g : Fin 2) (inv : ℕ → Vec F S1x8x128 .i32) (m : ℕ) : FVec F S8x128 .f32 :=
  absf (select (cmpi .ne (shrsi (shli (shapeCast S8x128 (inv (m / 8)) shapeCasts_S1x8x128_S8x128) (broadcast S8x128 (BitVec.ofNat 32 (31 - m % 8))))
      (broadcast S8x128 31#32)) (broadcast S8x128 0#32))
    (extractStridedSlice S8x128 ![8 * (m % 32), 128 * g.val] res (rslice_ok ⟨m % 32, Nat.mod_lt _ (by decide)⟩ g))
    (broadcast S8x128 (Scalar.ofBits .f32 0x00000000#32)))

/-- What a trip stores into `rs_s` (with addition) and `mx_s` (with the maximum). -/
def group (op : FVec F S8x128 .f32 → FVec F S8x128 .f32 → FVec F S8x128 .f32) (res : FVec F S256x256 .f32) (g : Fin 2)
    (inv : ℕ → Vec F S1x8x128 .i32) : FVec F S1x8x128 .f32 :=
  shapeCast S1x8x128 (chain op (term res g inv) 31) shapeCasts_S8x128_S1x8x128

end Cert.KernelIdeal.Pay
-- ==== Proof.Run.lean ====
/- The lists of stores a grid step makes into its scratch buffers, store by store, as one rule for every group of block columns. -/
module
public import proofs.«01_k».proof.Proof.Pay
public import proofs.«01_k».proof.Proof.Gen.KernelIdeal.Frame
public import Idealize.ShloMosaic.Lib.Tactic
@[expose] public section
noncomputable section
namespace Cert.KernelIdeal.Pay
open Cert.KernelIdeal Cert.KernelIdeal.Gen Idealize.ShloMosaic Idealize.ShloMosaic.TcCoe Idealize.SL.Sem
open Cert.KernelIdeal.Facts
variable {F : FTy → Type} [FloatOps F]

/-- `f (n - 1)`, then `f (n - 2)`, … `f 0`, one after the other. -/
def down {α : Type} (f : ℕ → List α) : ℕ → List α
  | 0 => []
  | n + 1 => f n ++ down f n

theorem rs_ok : ∀ (q : Fin 14) (g : Fin 4), ∀ a : Fin 3, (![g.val, 8 * q.val, 0] : Fin 3 → ℕ) a + (![1, 8, 128] : Fin 3 → ℕ) a ≤ S4x112x128.size a := by decide
theorem ws_ok : ∀ j : Fin 28, ∀ a : Fin 2, (![16 * j.val, 0] : Fin 2 → ℕ) a + (![16, 128] : Fin 2 → ℕ) a ≤ S448x128.size a := by decide
theorem mw_ok (k : ℕ) : ∀ a : Fin 2, (![k % 448, 0] : Fin 2 → ℕ) a + (![1, 128] : Fin 2 → ℕ) a ≤ S448x128.size a := by
  have := Nat.mod_lt k (show 0 < 448 by decide)
  intro a; fin_cases a
  · show k % 448 + 1 ≤ 448; omega
  · show 0 + 128 ≤ 128; omega
theorem x_ok : ∀ q : Fin 14, ∀ a : Fin 2, (![256 * q.val, 0] : Fin 2 → ℕ) a + (![256, 1536] : Fin 2 → ℕ) a ≤ S3584x1536.size a := by decide
theorem dy_ok : ∀ h : Fin 2, ∀ a : Fin 2, (![0, 256 * h.val] : Fin 2 → ℕ) a + (![1536, 256] : Fin 2 → ℕ) a ≤ S1536x512.size a := by decide
theorem w_ok : ∀ j : Fin 28, ∀ a : Fin 2, (![0, 128 * j.val] : Fin 2 → ℕ) a + (![512, 128] : Fin 2 → ℕ) a ≤ S512x3584.size a := by decide
theorem inv_ok (q : Fin 14) (g : Fin 4) (k : ℕ) : ∀ a : Fin 3, (![1, 8, 128] : Fin 3 → ℕ) a = 0 ∨
    (![g.val, 32 * q.val + k % 4, 0] : Fin 3 → ℕ) a + (![1, 4, 1] : Fin 3 → ℕ) a * ((![1, 8, 128] : Fin 3 → ℕ) a - 1) < S4x448x128.size a := by
  have := Nat.mod_lt k (show 0 < 4 by decide)
  intro a; fin_cases a <;> right
  · show g.val + 1 * (1 - 1) < 4; omega
  · show 32 * q.val + k % 4 + 4 * (8 - 1) < 448; omega
  · show 0 + 1 * (128 - 1) < 128; omega

variable (c : Dev nD) (arg1 : Memref sig .tc .vmem S3584x1536 .fp8e4m3) (harg1 : arg1.IsWhole)
  (arg2 : Memref sig .tc .vmem S1x1536 .f32) (harg2 : arg2.IsWhole) (arg3 : Memref sig .tc .vmem S1536x512 .fp8e5m2) (harg3 : arg3.IsWhole)
  (arg4 : Memref sig .tc .vmem S512x3584 .i8) (harg4 : arg4.IsWhole)
  (arg5 : Memref sig .tc .vmem S512x448 .i8) (harg5 : arg5.IsWhole) (arg11 : Memref sig .tc .vmem S4x448x128 .i32)
  (arg12 : Memref sig .tc .vmem S448x128 .i32)
  (x0 : Vec F S3584x1536 .fp8e4m3) (x1 : Vec F S1x1536 .f32) (x2 : Vec F S1536x512 .fp8e5m2) (x3 : Vec F S512x3584 .i8) (x4 : Vec F S512x448 .i8)

/-- Group `q`'s product against columns 256h to 256h + 255 of the step's gradients, loaded from the blocks. -/
def prodLd (q : Fin 14) (h : Fin 2) : FVec F S256x256 .f32 :=
  prod (View.readAt (Elt F) arg1.view (Rect.unit (s := S3584x1536) ![256 * q.val, 0] S256x1536.size (x_ok q)).toLoadRect (harg1.unread x0))
    (View.readAt (Elt F) arg2.view (Rect.unit (s := S1x1536) ![0, 0] S1x1536.size inb_S1x1536_S1x1536_0_0).toLoadRect (harg2.unread x1))
    (View.readAt (Elt F) arg3.view (Rect.unit (s := S1536x512) ![0, 256 * h.val] S1536x256.size (dy_ok h)).toLoadRect (harg3.unread x2))

/-- The box of the `k`-th strided load of group `q`'s mask words. -/
def invBox (q : Fin 14) (g : Fin 4) (k : ℕ) : LoadRect S4x448x128 :=
  { off := ![g.val, 32 * q.val + k % 4, 0], size := S1x8x128.size, stride := ![1, 4, 1], inb := inv_ok q g k }

/-- The `k`-th strided load of group `q`'s mask words. -/
def invLd (q : Fin 14) (g : Fin 4) (k : ℕ) : Vec F S1x8x128 .i32 :=
  arg11.view.readCov (kernelRun0_A.sl.HS0_16 c arg5 harg5 x4) (invBox q g k)

abbrev hi (g : Fin 4) : Fin 2 := ⟨g.val / 2, by omega⟩
abbrev lo (g : Fin 4) : Fin 2 := ⟨g.val % 2, by omega⟩

/-- The store of group `q` into `rs_s` (with addition) or `mx_s` (with the maximum), for lane tile `g`. -/
def gPiece (op : FVec F S8x128 .f32 → FVec F S8x128 .f32 → FVec F S8x128 .f32) (q : Fin 14) (g : Fin 4) : View.Piece (Elt F) S4x112x128 .f32 :=
  ⟨Rect.unit (s := S4x112x128) ![g.val, 8 * q.val, 0] S1x8x128.size (rs_ok q g),
    group op (prodLd arg1 harg1 arg2 harg2 arg3 harg3 x0 x1 x2 q (hi g)) (lo g) (invLd c arg5 harg5 arg11 x4 q g)⟩

abbrev grp (q : ℕ) : Fin 14 := ⟨q % 14, Nat.mod_lt _ (by decide)⟩

/-- All the stores into `rs_s` or `mx_s`, the last first. -/
def gPieces (op : FVec F S8x128 .f32 → FVec F S8x128 .f32 → FVec F S8x128 .f32) : List (View.Piece (Elt F) S4x112x128 .f32) :=
  down (fun q => [gPiece c arg1 harg1 arg2 harg2 arg3 harg3 arg5 harg5 arg11 x0 x1 x2 x4 op (grp q) 3,
    gPiece c arg1 harg1 arg2 harg2 arg3 harg3 arg5 harg5 arg11 x0 x1 x2 x4 op (grp q) 2,
    gPiece c arg1 harg1 arg2 harg2 arg3 harg3 arg5 harg5 arg11 x0 x1 x2 x4 op (grp q) 1,
    gPiece c arg1 harg1 arg2 harg2 arg3 harg3 arg5 harg5 arg11 x0 x1 x2 x4 op (grp q) 0]) 14

/-- The mask word of byte column `k`, loaded from `mw_s`. -/
def mwLd (k : ℕ) : Vec F S1x128 .i32 :=
  arg12.view.readCov (kernelRun0_A.sl.HS1_4 c arg5 harg5 x4) (Rect.unit (s := S448x128) ![k % 448, 0] S1x128.size (mw_ok k)).toLoadRect

/-- The rows' numbers. -/
def subI : IVec S8x128 32 := iota .tc S8x128 32 [0] iota_S8x128_d0_w32

/-- The weights of the four block columns of tile `j`. -/
def wLd (j : Fin 28) : Vec F S512x128 .i8 :=
  View.readAt (Elt F) arg4.view (Rect.unit (s := S512x3584) ![0, 128 * j.val] S512x128.size (w_ok j)).toLoadRect (harg4.unread x3)

/-- The mask words of tile `j`. -/
def mbLd (j : Fin 28) (i : Fin 4) (t : ℕ) : Vec F S1x128 .i32 := mwLd c arg5 harg5 arg12 x4 (4 * (4 * j.val + i.val) + t)

abbrev til (j : ℕ) : Fin 28 := ⟨j % 28, Nat.mod_lt _ (by decide)⟩

/-- All the stores into `wsum_s`, the last first. -/
def sPieces : List (View.Piece (Elt F) S448x128 .f32) :=
  down (fun j => [⟨Rect.unit (s := S448x128) ![16 * (til j).val, 0] S16x128.size (ws_ok (til j)),
    sumTile subI (wLd arg4 harg4 x3 (til j)) (mbLd c arg5 harg5 arg12 x4 (til j))⟩]) 28

/-- All the stores into `wmin_s`, the last first. -/
def mPieces : List (View.Piece (Elt F) S448x128 .f32) :=
  down (fun j => [⟨Rect.unit (s := S448x128) ![16 * (til j).val, 0] S16x128.size (ws_ok (til j)),
    minTile subI (wLd arg4 harg4 x3 (til j)) (mbLd c arg5 harg5 arg12 x4 (til j))⟩]) 28

theorem HS2_eq : kernelRun0_A.sl.HS2_56 c arg1 harg1 arg2 harg2 arg3 harg3 arg5 harg5 arg11 x0 x1 x2 x4
    = gPieces c arg1 harg1 arg2 harg2 arg3 harg3 arg5 harg5 arg11 x0 x1 x2 x4 addf := by sl_kernel_rfl
theorem HS3_eq : kernelRun0_A.sl.HS3_56 c arg1 harg1 arg2 harg2 arg3 harg3 arg5 harg5 arg11 x0 x1 x2 x4
    = gPieces c arg1 harg1 arg2 harg2 arg3 harg3 arg5 harg5 arg11 x0 x1 x2 x4 maximumf := by sl_kernel_rfl
theorem HS4_eq : kernelRun0_A.sl.HS4_28 c arg4 harg4 arg5 harg5 arg12 x3 x4 = sPieces c arg4 harg4 arg5 harg5 arg12 x3 x4 := by sl_kernel_rfl
theorem HS5_eq : kernelRun0_A.sl.HS5_28 c arg4 harg4 arg5 harg5 arg12 x3 x4 = mPieces c arg4 harg4 arg5 harg5 arg12 x3 x4 := by sl_kernel_rfl

theorem m_ok : ∀ (g : Fin 4) (b : Fin 3), ∀ a : Fin 2, (![128 * g.val, 128 * b.val] : Fin 2 → ℕ) a + (![128, 128] : Fin 2 → ℕ) a ≤ S512x448.size a := by decide
theorem mEnd_ok : ∀ (g : Fin 4), ∀ a : Fin 2, (![128 * g.val, 384] : Fin 2 → ℕ) a + (![128, 64] : Fin 2 → ℕ) a ≤ S512x448.size a := by decide
theorem mg_ok : ∀ (g : Fin 4) (b : Fin 3), ∀ a : Fin 3, (![g.val, 128 * b.val, 0] : Fin 3 → ℕ) a + (![1, 128, 128] : Fin 3 → ℕ) a ≤ S4x448x128.size a := by decide
theorem mgEnd_ok : ∀ (g : Fin 4), ∀ a : Fin 3, (![g.val, 384, 0] : Fin 3 → ℕ) a + (![1, 64, 128] : Fin 3 → ℕ) a ≤ S4x448x128.size a := by decide
theorem mm_ok : ∀ (b : Fin 3), ∀ a : Fin 2, (![0, 128 * b.val] : Fin 2 → ℕ) a + (![512, 128] : Fin 2 → ℕ) a ≤ S512x448.size a := by decide
theorem mw3_ok : ∀ (b : Fin 3), ∀ a : Fin 2, (![128 * b.val, 0] : Fin 2 → ℕ) a + (![128, 128] : Fin 2 → ℕ) a ≤ S448x128.size a := by decide
theorem row_ok : ∀ (g : Fin 4), ∀ a : Fin 3, (![g.val, 0, 0] : Fin 3 → ℕ) a + (![1, 112, 128] : Fin 3 → ℕ) a ≤ S4x112x128.size a := by decide
theorem grow_ok : ∀ (g : Fin 4), ∀ a : Fin 2, (![128 * g.val, 0] : Fin 2 → ℕ) a + (![128, 112] : Fin 2 → ℕ) a ≤ S512x112.size a := by decide
theorem gmax_ok : ∀ (g : Fin 4), ∀ a : Fin 2, (![4 * g.val, 0] : Fin 2 → ℕ) a + (![4, 112] : Fin 2 → ℕ) a ≤ S16x112.size a := by decide
theorem sc_ok (b : ℕ) : ∀ a : Fin 3, (![0, b % 4, 0] : Fin 3 → ℕ) a + (![1, 1, 128] : Fin 3 → ℕ) a ≤ S1x4x128.size a := by
  have := Nat.mod_lt b (show 0 < 4 by decide)
  intro a; fin_cases a
  · show 0 + 1 ≤ 1; omega
  · show b % 4 + 1 ≤ 4; omega
  · show 0 + 128 ≤ 128; omega
theorem str_ok (b : ℕ) : ∀ a : Fin 2, (![112, 128] : Fin 2 → ℕ) a = 0 ∨
    (![b % 4, 0] : Fin 2 → ℕ) a + (![4, 1] : Fin 2 → ℕ) a * ((![112, 128] : Fin 2 → ℕ) a - 1) < S448x128.size a := by
  have := Nat.mod_lt b (show 0 < 4 by decide)
  intro a; fin_cases a <;> right
  · show b % 4 + 4 * (112 - 1) < 448; omega
  · show 0 + 1 * (128 - 1) < 128; omega

abbrev sec (b : ℕ) : Fin 3 := ⟨b % 3, Nat.mod_lt _ (by decide)⟩

/-- A store of 128 rows into `mg_s`: the complements of the mask bytes, transposed. -/
def mgPiece (g : Fin 4) (b : Fin 3) : View.Piece (Elt F) S4x448x128 .i32 :=
  ⟨Rect.unit (s := S4x448x128) ![g.val, 128 * b.val, 0] S1x128x128.size (mg_ok g b),
    shapeCast S1x128x128 (xori (transpose S128x128 [1, 0] (extui 32 (View.readAt (Elt F) arg5.view
      (Rect.unit (s := S512x448) ![128 * g.val, 128 * b.val] S128x128.size (m_ok g b)).toLoadRect (harg5.unread x4)) natLt_8_32)
      transposes_S128x128_p1_0_S128x128) (constantI S128x128 32 4294967295#32)) shapeCasts_S128x128_S1x128x128⟩

/-- The store of the last 64 rows into `mg_s`. -/
def mgEnd (g : Fin 4) : View.Piece (Elt F) S4x448x128 .i32 :=
  ⟨Rect.unit (s := S4x448x128) ![g.val, 384, 0] S1x64x128.size (mgEnd_ok g),
    shapeCast S1x64x128 (xori (transpose S64x128 [1, 0] (extui 32 (View.readAt (Elt F) arg5.view
      (Rect.unit (s := S512x448) ![128 * g.val, 384] S128x64.size (mEnd_ok g)).toLoadRect (harg5.unread x4)) natLt_8_32)
      transposes_S128x64_p1_0_S64x128) (constantI S64x128 32 4294967295#32)) shapeCasts_S64x128_S1x64x128⟩

/-- All the stores into `mg_s`, the last first. -/
def mgPieces : List (View.Piece (Elt F) S4x448x128 .i32) :=
  [mgEnd arg5 harg5 x4 3, mgEnd arg5 harg5 x4 2, mgEnd arg5 harg5 x4 1, mgEnd arg5 harg5 x4 0] ++
    down (fun b => [mgPiece arg5 harg5 x4 3 (sec b), mgPiece arg5 harg5 x4 2 (sec b), mgPiece arg5 harg5 x4 1 (sec b), mgPiece arg5 harg5 x4 0 (sec b)]) 3

/-- A store of 128 rows into `mw_s`: the mask bytes of four rows as one word, transposed. -/
def mwPiece (b : Fin 3) : View.Piece (Elt F) S448x128 .i32 :=
  ⟨Rect.unit (s := S448x128) ![128 * b.val, 0] S128x128.size (mw3_ok b),
    shapeCast S128x128 (transpose S128x128 [1, 0] (bitcast S128x128 32 (View.readAt (Elt F) arg5.view
      (Rect.unit (s := S512x448) ![0, 128 * b.val] S512x128.size (mm_ok b)).toLoadRect (harg5.unread x4)) bitcasts_S512x128_w8_S128x128_w32)
      transposes_S128x128_p1_0_S128x128) shapeCasts_S128x128_S128x128⟩

/-- The store of the last 64 rows into `mw_s`. -/
def mwEnd : View.Piece (Elt F) S448x128 .i32 :=
  ⟨Rect.unit (s := S448x128) ![384, 0] S64x128.size inb_S448x128_S64x128_384_0,
    shapeCast S64x128 (transpose S64x128 [1, 0] (bitcast S128x64 32 (View.readAt (Elt F) arg5.view
      (Rect.unit (s := S512x448) ![0, 384] S512x64.size inb_S512x448_S512x64_0_384).toLoadRect (harg5.unread x4)) bitcasts_S512x64_w8_S128x64_w32)
      transposes_S128x64_p1_0_S64x128) shapeCasts_S64x128_S64x128⟩

/-- All the stores into `mw_s`, the last first. -/
def mwPieces : List (View.Piece (Elt F) S448x128 .i32) := mwEnd arg5 harg5 x4 :: down (fun b => [mwPiece arg5 harg5 x4 (sec b)]) 3

theorem HS0_eq : kernelRun0_A.sl.HS0_16 c arg5 harg5 x4 = mgPieces arg5 harg5 x4 := by sl_kernel_rfl
theorem HS1_eq : kernelRun0_A.sl.HS1_4 c arg5 harg5 x4 = mwPieces arg5 harg5 x4 := by sl_kernel_rfl

/-- What is stored into the block of row sums: a lane tile's rows, transposed. -/
def growOut (v : Vec F S1x112x128 .f32) : FVec F S128x112 .f32 := k0_pay5809 v
/-- What is stored into the block of maxima: a lane tile's rows, transposed, the maximum over each 32 of its lanes. -/
def gmaxOut (v : Vec F S1x112x128 .f32) : FVec F S4x112 .f32 := k0_pay5810 v

/-- The kept weights' sums times their scales, added over the four rows of a word. -/
def dsumOut (s : ℕ → Vec F S112x128 .f32) (sc : ℕ → Vec F S1x1x128 .f32) : FVec F S16x112 .f32 :=
  k0_pay1 (transpose S128x112 [1, 0] (chain addf (fun b => mulf (s b) (broadcastTo S112x128 (shapeCast S1x128 (sc b) shapeCasts_S1x1x128_S1x128)
    broadcasts_S1x128_S112x128)) 3) transposes_S112x128_p1_0_S128x112)

/-- The kept weights' minima times their scales, infinity where no weight of the row is kept, the minimum over the four rows of a word. -/
def dminOut (any : IVec S112x128 32) (s : ℕ → Vec F S112x128 .f32) (sc : ℕ → Vec F S1x1x128 .f32) : FVec F S16x112 .f32 :=
  k0_pay2 (chain minimumf (fun b => select (cmpi .ne (andi any (broadcast S112x128 (BitVec.ofNat 32 (255 * 2 ^ (8 * b))))) (broadcast S112x128 0#32))
    (mulf (s b) (broadcastTo S112x128 (shapeCast S1x128 (sc b) shapeCasts_S1x1x128_S1x128) broadcasts_S1x128_S112x128))
    (broadcast S112x128 (FloatOps.ofBits .f32 2139095040#32))) 3)

/-- The box of row `b` of every four. -/
def strBox (b : ℕ) : LoadRect S448x128 := { off := ![b % 4, 0], size := S112x128.size, stride := ![4, 1], inb := str_ok b }

variable (i : grid0.Coords) (arg6 : Memref sig .tc .vmem S1x4x128 .f32) (harg6 : arg6.IsWhole) (arg7 : Memref sig .tc .vmem S16x112 .f32) (harg7 : arg7.IsWhole)
  (arg8 : Memref sig .tc .vmem S512x112 .f32) (harg8 : arg8.IsWhole) (arg9 : Memref sig .tc .vmem S16x112 .f32) (harg9 : arg9.IsWhole)
  (arg10 : Memref sig .tc .vmem S16x112 .f32) (harg10 : arg10.IsWhole) (harg11 : arg11.IsWhole) (harg12 : arg12.IsWhole)
  (arg13 : Memref sig .tc .vmem S4x112x128 .f32) (harg13 : arg13.IsWhole) (arg14 : Memref sig .tc .vmem S4x112x128 .f32) (harg14 : arg14.IsWhole)
  (arg15 : Memref sig .tc .vmem S448x128 .f32) (harg15 : arg15.IsWhole) (arg16 : Memref sig .tc .vmem S448x128 .f32) (harg16 : arg16.IsWhole)
  (x5 : Vec F S1x4x128 .f32)

/-- The scales of row `b` of every four. -/
def scLd (b : ℕ) : Vec F S1x1x128 .f32 :=
  View.readAt (Elt F) arg6.view (Rect.unit (s := S1x4x128) ![0, b % 4, 0] S1x1x128.size (sc_ok b)).toLoadRect (harg6.unread x5)

theorem out6_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).1
    = down (fun k => [⟨Rect.unit (s := S16x112) ![4 * (k % 4), 0] S4x112.size (gmax_ok ⟨k % 4, Nat.mod_lt _ (by decide)⟩),
      gmaxOut (arg14.view.readCov (kernelRun0_A.sl.HS3_56 c arg1 harg1 arg2 harg2 arg3 harg3 arg5 harg5 arg11 x0 x1 x2 x4)
        (Rect.unit (s := S4x112x128) ![k % 4, 0, 0] S1x112x128.size (row_ok ⟨k % 4, Nat.mod_lt _ (by decide)⟩)).toLoadRect)⟩]) 4 := by sl_kernel_rfl

theorem out7_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.1
    = down (fun k => [⟨Rect.unit (s := S512x112) ![128 * (k % 4), 0] S128x112.size (grow_ok ⟨k % 4, Nat.mod_lt _ (by decide)⟩),
      growOut (arg13.view.readCov (kernelRun0_A.sl.HS2_56 c arg1 harg1 arg2 harg2 arg3 harg3 arg5 harg5 arg11 x0 x1 x2 x4)
        (Rect.unit (s := S4x112x128) ![k % 4, 0, 0] S1x112x128.size (row_ok ⟨k % 4, Nat.mod_lt _ (by decide)⟩)).toLoadRect)⟩]) 4 := by sl_kernel_rfl

theorem out8_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.2.1
    = [⟨Rect.unit (s := S16x112) ![0, 0] S16x112.size inb_S16x112_S16x112_0_0,
      dminOut (k0_pay5811 (arg12.view.readCov (kernelRun0_A.sl.HS1_4 c arg5 harg5 x4) (strBox 0)) (arg12.view.readCov (kernelRun0_A.sl.HS1_4 c arg5 harg5 x4) (strBox 1))
          (arg12.view.readCov (kernelRun0_A.sl.HS1_4 c arg5 harg5 x4) (strBox 2)) (arg12.view.readCov (kernelRun0_A.sl.HS1_4 c arg5 harg5 x4) (strBox 3)))
        (fun b => arg16.view.readCov (kernelRun0_A.sl.HS5_28 c arg4 harg4 arg5 harg5 arg12 x3 x4) (strBox b)) (scLd arg6 harg6 x5)⟩] := by sl_kernel_rfl

theorem out9_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.2.2.1
    = [⟨Rect.unit (s := S16x112) ![0, 0] S16x112.size inb_S16x112_S16x112_0_0,
      dsumOut (fun b => arg15.view.readCov (kernelRun0_A.sl.HS4_28 c arg4 harg4 arg5 harg5 arg12 x3 x4) (strBox b)) (scLd arg6 harg6 x5)⟩] := by sl_kernel_rfl
end Cert.KernelIdeal.Pay
-- ==== Proof.Val.lean ====
module
public import proofs.«01_k».proof.Proof.Pay
public import Idealize.ShloMosaic.Lib.BitcastFour
public import Idealize.ShloMosaic.Lib.Pointwise
@[expose] public section
noncomputable section
namespace Cert.KernelIdeal.Pay
open Cert.KernelIdeal Cert.KernelIdeal.Gen Idealize.ShloMosaic Idealize.ShloMosaic.TcCoe Idealize.SL.Sem
open Cert.KernelIdeal.Facts
/-- An arithmetic shift by 31 leaves copies of the top bit. -/
theorem sshiftRight_top (y : BitVec 32) : y.sshiftRight 31 = 0#32 ↔ y.getLsbD 31 = false := by
  have top : ∀ i, i < 32 → (y.sshiftRight 31).getLsbD i = y.getLsbD 31 := by
    intro i hi
    rw [BitVec.getLsbD_sshiftRight, BitVec.msb_eq_getLsbD_last]
    have : ¬ 32 ≤ i := by omega
    by_cases h0 : 31 + i < 32
    · have : i = 0 := by omega
      subst this; rfl
    · simp only [this, h0, decide_false, Bool.not_false, Bool.true_and, if_false]
  constructor
  · intro h
    rw [← top 0 (by decide), h]
    rfl
  · intro h
    apply BitVec.eq_of_getLsbD_eq
    intro i hi
    rw [top i hi, h]
    simp

/-- Shifting bit `j` of a word to the top and back down leaves zero exactly when the bit is clear. -/
theorem spread_eq_zero (v : BitVec 32) (j : ℕ) (hj : j < 8) :
    IntOp.shrsi ArithUnit.vector (IntOp.shli ArithUnit.vector v (BitVec.ofNat 32 (31 - j))) 31#32 = 0#32 ↔ v.getLsbD j = false := by
  have h1 : (BitVec.ofNat 32 (31 - j)).toNat = 31 - j := by simp; omega
  have h31 : (31#32).toNat = 31 := rfl
  simp only [IntOp.shrsi, IntOp.shli, h1, h31]
  rw [if_pos (by decide), if_pos (by omega), BitVec.sshiftRight_eq', h31, sshiftRight_top, BitVec.shiftLeft_eq', h1, BitVec.getLsbD_shiftLeft,
    show 31 - (31 - j) = j by omega]
  simp

/-- The magnitude of an extended real. -/
def mag (x : EReal) : EReal := max x (-x)

/-- A chain of sums at an index is the sum of the terms. -/
theorem chain_addf_apply {s : Shape} {φ : FTy} (f : ℕ → FVec Ideal s φ) (n : ℕ) (i : s.Idx) :
    chain addf f n i = ∑ m ∈ Finset.range (n + 1), f m i := by
  induction n with
  | zero => simp [chain]
  | succ n ih => rw [chain, Finset.sum_range_succ, ← ih]; rfl

/-- A chain of maxima at an index is the supremum of the terms. -/
theorem chain_maximumf_apply {s : Shape} {φ : FTy} (f : ℕ → FVec Ideal s φ) (n : ℕ) (i : s.Idx) :
    chain maximumf f n i = (Finset.range (n + 1)).sup (α := EReal) fun m => f m i := by
  induction n with
  | zero => simp [chain]
  | succ n ih => rw [chain, Finset.range_add_one, Finset.sup_insert, ← ih, sup_comm]; rfl

/-- A chain of minima at an index is the infimum of the terms. -/
theorem chain_minimumf_apply {s : Shape} {φ : FTy} (f : ℕ → FVec Ideal s φ) (n : ℕ) (i : s.Idx) :
    chain minimumf f n i = (Finset.range (n + 1)).inf (α := EReal) fun m => f m i := by
  induction n with
  | zero => simp [chain]
  | succ n ih => rw [chain, Finset.range_add_one, Finset.inf_insert, ← ih, inf_comm]; rfl

/-- A masked magnitude at an index: bit `m % 8` of the inverted mask byte `m / 8` lets the product through. -/
theorem term_apply (res : FVec Ideal S256x256 .f32) (g : Fin 2) (inv : ℕ → Vec Ideal S1x8x128 .i32) (m : ℕ) (hm : m < 32) (s : Fin 8) (l : Fin 128) :
    term res g inv m (ix2 s l) = if (inv (m / 8) (ix3 0 s l)).getLsbD (m % 8) then
      mag (res (ix2 ⟨8 * m + s.val, by omega⟩ ⟨128 * g.val + l.val, by omega⟩)) else 0 := by
  have hs := spread_eq_zero (inv (m / 8) (ix3 0 s l)) (m % 8) (Nat.mod_lt _ (by decide))
  have he : IntOp.cmpi CmpIPredicate.ne (IntOp.shrsi ArithUnit.vector (IntOp.shli ArithUnit.vector (inv (m / 8) (ix3 0 s l))
      (BitVec.ofNat 32 (31 - m % 8))) 31#32) 0#32 = BitVec.ofBool ((inv (m / 8) (ix3 0 s l)).getLsbD (m % 8)) := by
    unfold IntOp.cmpi
    congr 1
    cases hb : (inv (m / 8) (ix3 0 s l)).getLsbD (m % 8)
    · simp [hs.mpr hb]
    · simp only [bne_iff_ne, ne_eq]
      exact fun h => by rw [hs.mp h] at hb; cases hb
  unfold term
  simp [pointwise, Nat.mod_eq_of_lt hm]
  rw [he]
  cases hb : (inv (m / 8) (ix3 0 s l)).getLsbD (m % 8)
  · show max (0 : EReal) (-0) = _
    simp
  · show max (res _) (-(res _)) = _
    simp [mag]

theorem wslice_getLsbD (w : Vec Ideal S512x128 .i8) (n : Fin 16) (p : Fin 8) (l : Fin 128) (q : Fin 32) :
    (wslice (F := Ideal) w n (ix2 p l)).getLsbD q.val = (w (ix2 ⟨4 * l.val + q.val / 8, by omega⟩ ⟨8 * n.val + p.val, by omega⟩)).getLsbD (q.val % 8) := by
  unfold wslice
  simp [pointwise]
  exact bitcast_8_32_getLsbD_ix2 w bitcasts_S512x128_w8_S128x128_w32 l ⟨8 * n.val + p.val, by omega⟩ q.val q.isLt ⟨4 * l.val + q.val / 8, by omega⟩ rfl

theorem keep_bits (mb : BitVec 32) (p : Fin 8) : (mb >>> p.val) &&& 16843009#32 = (if mb.getLsbD p.val then 1#32 else 0#32) ||| (if mb.getLsbD (8 + p.val) then 256#32 else 0#32)
      ||| (if mb.getLsbD (16 + p.val) then 65536#32 else 0#32) ||| (if mb.getLsbD (24 + p.val) then 16777216#32 else 0#32) := by
  have key : ∀ (q : Fin 32) (x0 x1 x2 x3 : Bool),
    ((if x0 then 1#32 else 0#32) ||| (if x1 then 256#32 else 0#32) ||| (if x2 then 65536#32 else 0#32) ||| (if x3 then 16777216#32 else 0#32) : BitVec 32).getLsbD q.val
      = ((16843009#32).getLsbD q.val && ![x0, x1, x2, x3] ⟨q.val / 8, by omega⟩) := by decide +kernel
  have one : ∀ q : Fin 32, (16843009#32).getLsbD q.val = decide (q.val % 8 = 0) := by decide +kernel
  apply BitVec.eq_of_getLsbD_eq
  intro i hi
  rw [key ⟨i, hi⟩, BitVec.getLsbD_and, one ⟨i, hi⟩, BitVec.getLsbD_ushiftRight, Bool.and_comm]
  by_cases h : i % 8 = 0
  · have hq : i = 0 ∨ i = 8 ∨ i = 16 ∨ i = 24 := by omega
    rcases hq with rfl | rfl | rfl | rfl <;> simp [Nat.add_comm]
  · simp [h]

/-- The mask word times 127: bit `q` is set when `q` is not a byte's top bit and the byte's mask bit `p` is set. -/
theorem keep_word (mb : BitVec 32) (p : Fin 8) (q : Fin 32) :
    ((((mb >>> p.val) &&& 16843009#32) <<< 7) - ((mb >>> p.val) &&& 16843009#32)).getLsbD q.val
      = (decide (q.val % 8 < 7) && mb.getLsbD (8 * (q.val / 8) + p.val)) := by
  have hq : q.val / 8 = 0 ∨ q.val / 8 = 1 ∨ q.val / 8 = 2 ∨ q.val / 8 = 3 := by omega
  have key : ∀ (x0 x1 x2 x3 : Bool) (q : Fin 32),
    (((((if x0 then 1#32 else 0#32) ||| (if x1 then 256#32 else 0#32) ||| (if x2 then 65536#32 else 0#32) ||| (if x3 then 16777216#32 else 0#32)) <<< 7)
     - ((if x0 then 1#32 else 0#32) ||| (if x1 then 256#32 else 0#32) ||| (if x2 then 65536#32 else 0#32) ||| (if x3 then 16777216#32 else 0#32)) : BitVec 32)).getLsbD q.val
      = (decide (q.val % 8 < 7) && ![x0, x1, x2, x3] ⟨q.val / 8, by omega⟩) := by decide +kernel
  rw [keep_bits, key]
  rcases hq with hq | hq | hq | hq <;> simp [hq]

/-- The mask's word for an [8, 128] tile, bit by bit. -/
theorem keep_getLsbD (mb : Vec Ideal S1x128 .i32) (p : Fin 8) (l : Fin 128) (q : Fin 32) :
    (keep (F := Ideal) (iota .tc S8x128 32 [0] iota_S8x128_d0_w32) mb (ix2 p l)).getLsbD q.val
      = (decide (q.val % 8 < 7) && (mb (ix2 0 l)).getLsbD (8 * (q.val / 8) + p.val)) := by
  rw [← keep_word]
  unfold keep
  have hp : (BitVec.ofNat 32 p.val).toNat = p.val := by simp; omega
  have h7 : (7#32).toNat = 7 := rfl
  have e : IntOp.shrui ArithUnit.vector (mb (ix2 0 l)) (BitVec.ofNat 32 p.val) = mb (ix2 0 l) >>> p.val := by
    unfold IntOp.shrui
    rw [hp, if_pos (by omega), BitVec.ushiftRight_eq', hp]
  have e7 (x : BitVec 32) : IntOp.shli ArithUnit.vector x 7#32 = x <<< 7 := by
    unfold IntOp.shli
    rw [h7, if_pos (by decide), BitVec.shiftLeft_eq', h7]
  have ei : iota .tc S8x128 32 [0] iota_S8x128_d0_w32 (ix2 p l) = BitVec.ofNat 32 p.val := by simp [pointwise]
  have eb : broadcastTo S8x128 (shapeCast S1x128 mb shapeCasts_S1x128_S1x128) broadcasts_S1x128_S8x128 (ix2 p l) = mb (ix2 0 l) := by simp [pointwise]
  show (IntOp.shli ArithUnit.vector (IntOp.shrui ArithUnit.vector (broadcastTo S8x128 (shapeCast S1x128 mb shapeCasts_S1x128_S1x128) broadcasts_S1x128_S8x128 (ix2 p l))
    (iota .tc S8x128 32 [0] iota_S8x128_d0_w32 (ix2 p l)) &&& 16843009#32) 7#32
    - (IntOp.shrui ArithUnit.vector (broadcastTo S8x128 (shapeCast S1x128 mb shapeCasts_S1x128_S1x128) broadcasts_S1x128_S8x128 (ix2 p l))
    (iota .tc S8x128 32 [0] iota_S8x128_d0_w32 (ix2 p l)) &&& 16843009#32)).getLsbD q.val = _
  rw [ei, eb, e, e7]

/-- A word's bytes: row `a` of the bytes is byte `a % 4` of row `a / 4`. -/
theorem bytes_getLsbD (x : IVec S8x128 32) (a : Fin 32) (l : Fin 128) (q : Fin 8) :
    (bitcast S32x128 8 x bitcasts_S8x128_w32_S32x128_w8 (ix2 a l)).getLsbD q.val
      = (x (ix2 ⟨a.val / 4, by omega⟩ l)).getLsbD (8 * (a.val % 4) + q.val) := by
  rw [bitcast_getLsbD _ _ _ q.val q.isLt (by decide)]
  have hr : S32x128.row (ix2 a l) = a.val := rfl
  have e : (S32x128.row (ix2 a l) * 8 + q.val) % 32 = 8 * (a.val % 4) + q.val := by rw [hr]; omega
  rw [e]
  congr 2
  funext c
  match c with
  | ⟨0, _⟩ => exact Fin.ext ((Shape.Bitcasts.srcIdx_row _ _ _ _ ⟨0, Nat.zero_lt_two⟩ rfl).trans (by rw [hr]; show _ = a.val / 4; omega))
  | ⟨1, _⟩ => exact Fin.ext (Shape.Bitcasts.srcIdx_other _ _ _ _ ⟨1, Nat.one_lt_two⟩ (by show ¬ 1 + 2 = 2; omega))

/-- Whether row `a` of a byte tile is active: bit `a / 4` of the mask word's byte `a % 4`. -/
def act (mb : Vec Ideal S1x128 .i32) (a : Fin 32) (l : Fin 128) : Bool := (mb (ix2 0 l)).getLsbD (8 * (a.val % 4) + a.val / 4)

/-- The weight byte at row `a` of a byte tile. -/
def wbyte (w : Vec Ideal S512x128 .i8) (n : Fin 16) (a : Fin 32) (l : Fin 128) : BitVec 8 :=
  w (ix2 ⟨4 * l.val + a.val % 4, by omega⟩ ⟨8 * n.val + a.val / 4, by omega⟩)

theorem seven : ∀ q : Fin 8, (127#8).getLsbD q.val = decide (q.val < 7) := by decide
theorem top_word : ∀ q : Fin 32, (2122219134#32).getLsbD q.val = (126#8).getLsbD (q.val % 8) := by decide
theorem ones_word : ∀ q : Fin 32, (4294967295#32).getLsbD q.val = true := by decide

theorem wZero_apply (w : Vec Ideal S512x128 .i8) (n : Fin 16) (mb : Vec Ideal S1x128 .i32) (a : Fin 32) (l : Fin 128) :
    wZero (iota .tc S8x128 32 [0] iota_S8x128_d0_w32) w n mb (ix2 a l)
      = Ideal.e4m3fn (if act mb a l then wbyte w n a l &&& 127#8 else 0#8) := by
  unfold wZero
  show Ideal.e4m3fn (bitcast S32x128 8 _ bitcasts_S8x128_w32_S32x128_w8 (ix2 a l)) = _
  congr 1
  apply BitVec.eq_of_getLsbD_eq
  intro q hq
  have h1 := keep_getLsbD mb ⟨a.val / 4, by omega⟩ l ⟨8 * (a.val % 4) + q, by omega⟩
  have h2 := wslice_getLsbD w n ⟨a.val / 4, by omega⟩ l ⟨8 * (a.val % 4) + q, by omega⟩
  have e1 : (8 * (a.val % 4) + q) % 8 = q := by omega
  have e2 : (8 * (a.val % 4) + q) / 8 = a.val % 4 := by omega
  simp only [e1, e2] at h1 h2
  rw [bytes_getLsbD _ a l ⟨q, hq⟩]
  show (wslice (F := Ideal) w n (ix2 ⟨a.val / 4, _⟩ l) &&& keep (F := Ideal) _ mb (ix2 ⟨a.val / 4, _⟩ l)).getLsbD _ = _
  rw [BitVec.getLsbD_and, h1, h2]
  unfold act wbyte
  cases (mb (ix2 0 l)).getLsbD (8 * (a.val % 4) + a.val / 4)
  · simp
  · simp [BitVec.getLsbD_and, seven ⟨q, hq⟩]

theorem wTop_apply (w : Vec Ideal S512x128 .i8) (n : Fin 16) (mb : Vec Ideal S1x128 .i32) (a : Fin 32) (l : Fin 128) :
    wTop (iota .tc S8x128 32 [0] iota_S8x128_d0_w32) w n mb (ix2 a l)
      = Ideal.e4m3fn (if act mb a l then wbyte w n a l &&& 127#8 else 126#8) := by
  unfold wTop
  show Ideal.e4m3fn (bitcast S32x128 8 _ bitcasts_S8x128_w32_S32x128_w8 (ix2 a l)) = _
  congr 1
  apply BitVec.eq_of_getLsbD_eq
  intro q hq
  have h1 := keep_getLsbD mb ⟨a.val / 4, by omega⟩ l ⟨8 * (a.val % 4) + q, by omega⟩
  have h2 := wslice_getLsbD w n ⟨a.val / 4, by omega⟩ l ⟨8 * (a.val % 4) + q, by omega⟩
  have h3 := top_word ⟨8 * (a.val % 4) + q, by omega⟩
  have h4 := ones_word ⟨8 * (a.val % 4) + q, by omega⟩
  have e1 : (8 * (a.val % 4) + q) % 8 = q := by omega
  have e2 : (8 * (a.val % 4) + q) / 8 = a.val % 4 := by omega
  simp only [e1, e2] at h1 h2 h3 h4
  rw [bytes_getLsbD _ a l ⟨q, hq⟩]
  show ((wslice (F := Ideal) w n (ix2 ⟨a.val / 4, _⟩ l) &&& keep (F := Ideal) _ mb (ix2 ⟨a.val / 4, _⟩ l))
    ||| (2122219134#32 &&& (keep (F := Ideal) _ mb (ix2 ⟨a.val / 4, _⟩ l) ^^^ 4294967295#32))).getLsbD _ = _
  rw [BitVec.getLsbD_or, BitVec.getLsbD_and, BitVec.getLsbD_and, BitVec.getLsbD_xor, h1, h2, h3, h4]
  unfold act wbyte
  have h126 : ∀ q : Fin 8, (126#8).getLsbD q.val = (decide (q.val < 7) && (126#8).getLsbD q.val) := by decide
  cases (mb (ix2 0 l)).getLsbD (8 * (a.val % 4) + a.val / 4)
  · simp
  · simp only [BitVec.getLsbD_and, seven ⟨q, hq⟩, if_true]
    have := h126 ⟨q, hq⟩
    simp only at this
    by_cases h7 : q < 7
    · simp [h7]
    · simp [h7] at this ⊢
      simp [this]

theorem sumFour_apply (s : FVec Ideal S32x128 .f32) (b : Fin 4) (l : Fin 128) :
    sumFour s (ix2 b l) = ∑ p : Fin 8, s (ix2 ⟨4 * p.val + b.val, by omega⟩ l) := by
  let f : ℕ → EReal := fun n => if h : n < 32 then s (ix2 ⟨n, h⟩ l) else 0
  have hf : ∀ (n : ℕ) (h : n < 32), s (ix2 ⟨n, h⟩ l) = f n := fun n h => by simp [f, h]
  unfold sumFour
  simp [pointwise, Fin.sum_univ_eight]
  have hb := b.isLt
  simp only [hf]
  rw [show 8 + (4 + b.val) = 12 + b.val by omega, show 16 + (4 + b.val) = 20 + b.val by omega, show 24 + (4 + b.val) = 28 + b.val by omega]
  abel
theorem minFour_apply (s : FVec Ideal S32x128 .bf16) (b : Fin 4) (l : Fin 128) :
    minFour s (ix2 b l) = Finset.univ.inf fun p : Fin 8 => s (ix2 ⟨4 * p.val + b.val, by omega⟩ l) := by
  let f : ℕ → EReal := fun n => if h : n < 32 then s (ix2 ⟨n, h⟩ l) else 0
  have hf : ∀ (n : ℕ) (h : n < 32), s (ix2 ⟨n, h⟩ l) = f n := fun n h => by simp [f, h]
  have hu : (Finset.univ : Finset (Fin 8)) = {0, 1, 2, 3, 4, 5, 6, 7} := by decide
  unfold minFour
  simp [pointwise, hu]
  simp only [hf]
  rw [show 16 + (8 + b.val) = 24 + b.val by omega, show 8 + (4 + b.val) = 12 + b.val by omega, show 16 + (4 + b.val) = 20 + b.val by omega,
    show 16 + (12 + b.val) = 28 + b.val by omega]
  ac_rfl

/-- Four stacked [4, 128] vectors at row `4 i + b`. -/
theorem stack_apply (c : Fin 4 → FVec Ideal S4x128 .f32) (i b : Fin 4) (l : Fin 128) :
    shapeCast S16x128 (concatenate S16x128 0 [⟨S4x128, c 0⟩, ⟨S4x128, c 1⟩, ⟨S4x128, c 2⟩, ⟨S4x128, c 3⟩]
      concatenates_S4x128_S4x128_S4x128_S4x128_S16x128_d0) shapeCasts_S16x128_S16x128 (ix2 ⟨4 * i.val + b.val, by omega⟩ l) = c i (ix2 b l) := by
  have hb := b.isLt
  have key : ∀ (f : FVec Ideal S4x128 .f32) (n : ℕ) (h : n < 4), n = b.val → f (ix2 ⟨n, h⟩ l) = f (ix2 b l) := fun f n h e => by
    subst e; rfl
  simp only [pointwise]
  have hi : i = 0 ∨ i = 1 ∨ i = 2 ∨ i = 3 := by omega
  rcases hi with rfl | rfl | rfl | rfl
  · rw [dif_pos (by show 4 * 0 + b.val < 4; omega)]
    exact key _ _ _ (by show 4 * 0 + b.val = _; omega)
  · rw [dif_neg (by show ¬ 4 * 1 + b.val < 4; omega), dif_pos (by show 4 * 1 + b.val - 4 < 4; omega)]
    exact key _ _ _ (by show 4 * 1 + b.val - 4 = _; omega)
  · rw [dif_neg (by show ¬ 4 * 2 + b.val < 4; omega), dif_neg (by show ¬ 4 * 2 + b.val - 4 < 4; omega), dif_pos (by show 4 * 2 + b.val - 4 - 4 < 4; omega)]
    exact key _ _ _ (by show 4 * 2 + b.val - 4 - 4 = _; omega)
  · rw [dif_neg (by show ¬ 4 * 3 + b.val < 4; omega), dif_neg (by show ¬ 4 * 3 + b.val - 4 < 4; omega), dif_neg (by show ¬ 4 * 3 + b.val - 4 - 4 < 4; omega)]
    exact key _ _ _ (by show 4 * 3 + b.val - 4 - 4 - 4 = _; omega)

/-- The stored sums of a tile at row `4 i + b`: over the rows `p` and the quarters `t` of block column `i`. -/
theorem sumTile_apply (sub : IVec S8x128 32) (w : Vec Ideal S512x128 .i8) (mb : Fin 4 → ℕ → Vec Ideal S1x128 .i32) (i b : Fin 4) (l : Fin 128) :
    sumTile sub w mb (ix2 ⟨4 * i.val + b.val, by omega⟩ l)
      = ∑ p : Fin 8, ∑ t ∈ Finset.range 4, wZero sub w (sl i t) (mb i t) (ix2 ⟨4 * p.val + b.val, by omega⟩ l) := by
  refine (stack_apply (fun i => sumFour (chain addf (fun t => wZero sub w (sl i t) (mb i t)) 3)) i b l).trans ?_
  rw [sumFour_apply]
  exact Finset.sum_congr rfl fun p _ => chain_addf_apply _ _ _

/-- … and the stored minima. -/
theorem minTile_apply (sub : IVec S8x128 32) (w : Vec Ideal S512x128 .i8) (mb : Fin 4 → ℕ → Vec Ideal S1x128 .i32) (i b : Fin 4) (l : Fin 128) :
    minTile sub w mb (ix2 ⟨4 * i.val + b.val, by omega⟩ l)
      = Finset.univ.inf (α := EReal) fun p : Fin 8 => (Finset.range 4).inf (α := EReal) fun t =>
        wTop sub w (sl i t) (mb i t) (ix2 ⟨4 * p.val + b.val, by omega⟩ l) := by
  refine (stack_apply (fun i => minFour (chain minimumf (fun t => wTop sub w (sl i t) (mb i t)) 3)) i b l).trans ?_
  rw [minFour_apply]
  exact Finset.inf_congr rfl fun p _ => chain_minimumf_apply _ _ _

/-- The stored sums of a group at an index. -/
theorem group_addf_apply (res : FVec Ideal S256x256 .f32) (g : Fin 2) (inv : ℕ → Vec Ideal S1x8x128 .i32) (s : Fin 8) (l : Fin 128) :
    group addf res g inv (ix3 0 s l) = ∑ m ∈ Finset.range 32, term res g inv m (ix2 s l) := by
  unfold group
  rw [← chain_addf_apply]
  simp [pointwise]

/-- The stored maxima of a group at an index. -/
theorem group_maximumf_apply (res : FVec Ideal S256x256 .f32) (g : Fin 2) (inv : ℕ → Vec Ideal S1x8x128 .i32) (s : Fin 8) (l : Fin 128) :
    group maximumf res g inv (ix3 0 s l) = (Finset.range 32).sup (α := EReal) fun m => term res g inv m (ix2 s l) := by
  unfold group
  rw [← chain_maximumf_apply]
  simp [pointwise]
end Cert.KernelIdeal.Pay
-- ==== Proof.Scratch.lean ====
/- What the scratch buffers of a grid step hold once their stores are done, element by element, over the extended reals. -/
module
public import proofs.«01_k».proof.Proof.Run
public import proofs.«01_k».proof.Proof.Val
public import Idealize.ShloMosaic.Lib.WholeRead
public import Idealize.ShloMosaic.Lib.Pipeline.Value
@[expose] public section
noncomputable section
namespace Cert.KernelIdeal.Pay
open Cert.KernelIdeal Cert.KernelIdeal.Gen Idealize.ShloMosaic Idealize.ShloMosaic.TcCoe Idealize.SL.Sem
open Cert.KernelIdeal.Facts

theorem forall_down {α : Type} {f : ℕ → List α} {P : α → Prop} (h : ∀ n, ∀ p ∈ f n, P p) : ∀ n, ∀ p ∈ down f n, P p
  | 0, _, hp => absurd hp (by simp [down])
  | n + 1, p, hp => by
    rcases List.mem_append.mp hp with hp | hp
    · exact h n p hp
    · exact forall_down h n p hp

theorem mem_down {α : Type} {f : ℕ → List α} {p : α} {k : ℕ} (hp : p ∈ f k) : ∀ {n : ℕ}, k < n → p ∈ down f n
  | 0, h => absurd h (by omega)
  | n + 1, h => by
    rcases Nat.lt_succ_iff_lt_or_eq.mp h with h | rfl
    · exact List.mem_append_right _ (mem_down hp h)
    · exact List.mem_append_left _ hp

/-- What is so of every store is so of what the stores leave, where they cover. -/
theorem canon_rel {S : Shape} {e : EltTy} {Val : EltTy → Type} [∀ e, Nonempty (Val e)] (P : S.Idx → Val e → Prop) :
    ∀ (L : List (View.Piece Val S e)) (_ : ∀ p ∈ L, ∀ x : p.1.shape.Idx, P (p.1.emb x) (p.2 x)) (y : S.Idx) (_ : ∃ p ∈ L, y ∈ p.1.set), P y (View.canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_rel P L (fun q hq => hL q (by simp [hq])) y ?_
      obtain ⟨q, hq, hyq⟩ := hy
      rcases List.mem_cons.mp hq with rfl | hq'
      · exact absurd hyq hm
      · exact ⟨q, hq', hyq⟩

/-- The index a two-axis box gives. -/
theorem idx2 {n0 n1 a b k0 k1 : ℕ} (ok) (i : Fin k0) (j : Fin k1) (h0 : a + i.val < n0) (h1 : b + j.val < n1) :
    (Rect.unit (s := ⟨2, ![n0, n1]⟩) ![a, b] ![k0, k1] ok).toLoadRect.idx (ix2 i j) = ix2 (⟨a + i.val, h0⟩ : Fin n0) (⟨b + j.val, h1⟩ : Fin n1) := by
  funext c
  match c with
  | ⟨0, _⟩ => exact Fin.ext (show a + 1 * i.val = a + i.val by omega)
  | ⟨1, _⟩ => exact Fin.ext (show b + 1 * j.val = b + j.val by omega)

/-- The index a three-axis box gives. -/
theorem idx3 {n0 n1 n2 a b c k0 k1 k2 : ℕ} (ok) (i : Fin k0) (j : Fin k1) (l : Fin k2) (h0 : a + i.val < n0) (h1 : b + j.val < n1) (h2 : c + l.val < n2) :
    (Rect.unit (s := ⟨3, ![n0, n1, n2]⟩) ![a, b, c] ![k0, k1, k2] ok).toLoadRect.idx (ix3 i j l)
      = ix3 (⟨a + i.val, h0⟩ : Fin n0) (⟨b + j.val, h1⟩ : Fin n1) (⟨c + l.val, h2⟩ : Fin n2) := by
  funext d
  match d with
  | ⟨0, _⟩ => exact Fin.ext (show a + 1 * i.val = a + i.val by omega)
  | ⟨1, _⟩ => exact Fin.ext (show b + 1 * j.val = b + j.val by omega)
  | ⟨2, _⟩ => exact Fin.ext (show c + 1 * l.val = c + l.val by omega)

/-- The index a box of every `k`-th row gives. -/
theorem str2 {n0 n1 a b k0 k1 k : ℕ} (ok) (i : Fin k0) (j : Fin k1) (h0 : a + k * i.val < n0) (h1 : b + j.val < n1) :
    LoadRect.idx ({ off := ![a, b], size := ![k0, k1], stride := ![k, 1], inb := ok } : LoadRect ⟨2, ![n0, n1]⟩) (ix2 i j)
      = ix2 (⟨a + k * i.val, h0⟩ : Fin n0) (⟨b + j.val, h1⟩ : Fin n1) := by
  funext d
  match d with
  | ⟨0, _⟩ => exact Fin.ext rfl
  | ⟨1, _⟩ => exact Fin.ext (show b + 1 * j.val = b + j.val by omega)

theorem str3 {n0 n1 n2 a b c k0 k1 k2 k : ℕ} (ok) (i : Fin k0) (j : Fin k1) (l : Fin k2) (h0 : a + i.val < n0) (h1 : b + k * j.val < n1) (h2 : c + l.val < n2) :
    LoadRect.idx ({ off := ![a, b, c], size := ![k0, k1, k2], stride := ![1, k, 1], inb := ok } : LoadRect ⟨3, ![n0, n1, n2]⟩) (ix3 i j l)
      = ix3 (⟨a + i.val, h0⟩ : Fin n0) (⟨b + k * j.val, h1⟩ : Fin n1) (⟨c + l.val, h2⟩ : Fin n2) := by
  funext d
  match d with
  | ⟨0, _⟩ => exact Fin.ext (show a + 1 * i.val = a + i.val by omega)
  | ⟨1, _⟩ => exact Fin.ext rfl
  | ⟨2, _⟩ => exact Fin.ext (show c + 1 * l.val = c + l.val by omega)

/-- A two-axis box holds an index within its bounds. -/
theorem mem2 {n0 n1 a b k0 k1 : ℕ} (ok) (i : Fin n0) (j : Fin n1) (h0 : a ≤ i.val) (h0' : i.val < a + k0) (h1 : b ≤ j.val) (h1' : j.val < b + k1) :
    ix2 i j ∈ (Rect.unit (s := ⟨2, ![n0, n1]⟩) ![a, b] ![k0, k1] ok).set := by
  rw [Rect.mem_set_unit]
  intro d
  match d with
  | ⟨0, _⟩ => exact ⟨h0, h0'⟩
  | ⟨1, _⟩ => exact ⟨h1, h1'⟩

/-- A three-axis box holds an index within its bounds. -/
theorem mem3 {n0 n1 n2 a b c k0 k1 k2 : ℕ} (ok) (i : Fin n0) (j : Fin n1) (l : Fin n2) (h0 : a ≤ i.val) (h0' : i.val < a + k0)
    (h1 : b ≤ j.val) (h1' : j.val < b + k1) (h2 : c ≤ l.val) (h2' : l.val < c + k2) :
    ix3 i j l ∈ (Rect.unit (s := ⟨3, ![n0, n1, n2]⟩) ![a, b, c] ![k0, k1, k2] ok).set := by
  rw [Rect.mem_set_unit]
  intro d
  match d with
  | ⟨0, _⟩ => exact ⟨h0, h0'⟩
  | ⟨1, _⟩ => exact ⟨h1, h1'⟩
  | ⟨2, _⟩ => exact ⟨h2, h2'⟩

section Masks
variable (arg5 : Memref sig .tc .vmem S512x448 .i8) (harg5 : arg5.IsWhole) (x4 : Vec Ideal S512x448 .i8)

/-- What `mg_s` holds. -/
def mgF (y : S4x448x128.Idx) : BitVec 32 :=
  ~~~ ((x4 (ix2 ⟨128 * (y 0).val + (y 2).val, by have h0 : (y 0).val < 4 := (y 0).isLt; have h2 : (y 2).val < 128 := (y 2).isLt; omega⟩ (y 1))).setWidth 32)

theorem mgPiece_apply (g : Fin 4) (b : Fin 3) : ∀ x, (mgPiece arg5 harg5 x4 g b).2 x = mgF x4 ((mgPiece arg5 harg5 x4 g b).1.emb x) := by
  intro x
  obtain ⟨u, i, j, rfl⟩ : ∃ (u : Fin 1) (i j : Fin 128), x = ix3 u i j := ⟨x 0, x 1, x 2, eq_ix3 x⟩
  have e : (mgPiece arg5 harg5 x4 g b).1.emb (ix3 u i j) = ix3 (⟨g.val + u.val, by omega⟩ : Fin 4) (⟨128 * b.val + i.val, by omega⟩ : Fin 448)
    (⟨0 + j.val, by omega⟩ : Fin 128) := idx3 (mg_ok g b) u i j _ _ _
  rw [e]
  unfold mgPiece
  simp [pointwise]
  refine (congrArg (fun w => IntOp.xori (BitVec.setWidth 32 w) 4294967295#32) ((harg5.readAt_unread x4 _ _).trans
    (congrArg x4 (idx2 (n0 := 512) (n1 := 448) (m_ok g b) j i (by omega) (by omega))))).trans ?_
  refine (BitVec.xor_allOnes (x := BitVec.setWidth 32 _)).trans ?_
  unfold mgF
  congr 3

theorem mgEnd_apply (g : Fin 4) : ∀ x, (mgEnd arg5 harg5 x4 g).2 x = mgF x4 ((mgEnd arg5 harg5 x4 g).1.emb x) := by
  intro x
  obtain ⟨u, i, j, rfl⟩ : ∃ (u : Fin 1) (i : Fin 64) (j : Fin 128), x = ix3 u i j := ⟨x 0, x 1, x 2, eq_ix3 x⟩
  have e : (mgEnd arg5 harg5 x4 g).1.emb (ix3 u i j) = ix3 (⟨g.val + u.val, by omega⟩ : Fin 4) (⟨384 + i.val, by omega⟩ : Fin 448)
    (⟨0 + j.val, by omega⟩ : Fin 128) := idx3 (mgEnd_ok g) u i j _ _ _
  rw [e]
  unfold mgEnd
  simp [pointwise]
  refine (congrArg (fun w => IntOp.xori (BitVec.setWidth 32 w) 4294967295#32) ((harg5.readAt_unread x4 _ _).trans
    (congrArg x4 (idx2 (n0 := 512) (n1 := 448) (mEnd_ok g) j i (by omega) (by omega))))).trans ?_
  refine (BitVec.xor_allOnes (x := BitVec.setWidth 32 _)).trans ?_
  unfold mgF
  congr 3

/-- `mg_s` holds the complements of the mask bytes, transposed within each 128 rows. -/
theorem mg_canon (y : S4x448x128.Idx) : View.canon (Val := Elt Ideal) (mgPieces arg5 harg5 x4) y = mgF x4 y := by
  refine View.canon_apply_of_pieces (Val := Elt Ideal) (e := .i32) (mgF x4) _ (fun p hp => ?_) y ?_
  · rcases List.mem_append.mp hp with hp | hp
    · simp only [List.mem_cons, List.not_mem_nil, or_false] at hp
      rcases hp with rfl | rfl | rfl | rfl <;> exact mgEnd_apply arg5 harg5 x4 _
    · refine forall_down (P := fun p => ∀ x, p.2 x = mgF x4 (p.1.emb x)) (fun b p hp => ?_) 3 p hp
      simp only [List.mem_cons, List.not_mem_nil, or_false] at hp
      rcases hp with rfl | rfl | rfl | rfl <;> exact mgPiece_apply arg5 harg5 x4 _ _
  · obtain ⟨g, r, l, rfl⟩ : ∃ (g : Fin 4) (r : Fin 448) (l : Fin 128), y = ix3 g r l := ⟨y 0, y 1, y 2, eq_ix3 y⟩
    have hg : g = 3 ∨ g = 2 ∨ g = 1 ∨ g = 0 := by omega
    by_cases hr : r.val < 384
    · refine ⟨mgPiece arg5 harg5 x4 g (sec (r.val / 128)), List.mem_append_right _ (mem_down (k := r.val / 128) ?_ (by omega)), ?_⟩
      · rcases hg with rfl | rfl | rfl | rfl <;> simp
      · exact mem3 (mg_ok g _) g r l le_rfl (by omega) (show 128 * (r.val / 128 % 3) ≤ _ by omega) (show _ < 128 * (r.val / 128 % 3) + 128 by omega) (by omega) (by omega)
    · refine ⟨mgEnd arg5 harg5 x4 g, List.mem_append_left _ ?_, ?_⟩
      · rcases hg with rfl | rfl | rfl | rfl <;> simp
      · exact mem3 (mgEnd_ok g) g r l le_rfl (by omega) (by omega) (by omega) (by omega) (by omega)

/-- A strided load of the mask bytes' complements, bit by bit. -/
theorem invLd_getLsbD (c : Dev nD) (arg11 : Memref sig .tc .vmem S4x448x128 .i32) (q : Fin 14) (g : Fin 4) (k : ℕ) (hk : k < 4) (s : Fin 8) (l : Fin 128) (n : ℕ) (hn : n < 8) :
    (invLd c arg5 harg5 arg11 x4 q g k (ix3 0 s l)).getLsbD n
      = !(x4 (ix2 ⟨128 * g.val + l.val, by omega⟩ ⟨32 * q.val + 4 * s.val + k, by omega⟩)).getLsbD n := by
  unfold invLd
  rw [View.readCov_eq_canon', HS0_eq]
  have e : (invBox q g k).idx (ix3 0 s l) = ix3 (⟨g.val + 0, by omega⟩ : Fin 4) (⟨32 * q.val + k % 4 + 4 * s.val, by omega⟩ : Fin 448)
    (⟨0 + l.val, by omega⟩ : Fin 128) := str3 (inv_ok q g k) (0 : Fin 1) s l _ _ _
  show (View.canon (mgPieces arg5 harg5 x4) ((invBox q g k).idx (ix3 0 s l))).getLsbD n = _
  rw [e, mg_canon]
  unfold mgF
  rw [BitVec.getLsbD_not, BitVec.getLsbD_setWidth]
  have h32 : n < 32 := by omega
  simp only [h32, decide_true, Bool.true_and]
  congr 3
  exact congrArg₂ ix2 (Fin.ext (show 128 * (g.val + 0) + (0 + l.val) = 128 * g.val + l.val by omega)) (Fin.ext (show 32 * q.val + k % 4 + 4 * s.val = 32 * q.val + 4 * s.val + k by omega))

/-- What an element of `mw_s` is to be: byte `n / 8` of the word is the mask byte of row 4l + n / 8. -/
def mwRel (y : S448x128.Idx) (v : BitVec 32) : Prop :=
  ∀ (n : Fin 32) (h : 4 * (y 1).val + n.val / 8 < 512), v.getLsbD n.val = (x4 (ix2 ⟨4 * (y 1).val + n.val / 8, h⟩ (y 0))).getLsbD (n.val % 8)

theorem mwPiece_rel (b : Fin 3) (x) : mwRel x4 ((mwPiece (F := Ideal) arg5 harg5 x4 b).1.emb x) ((mwPiece (F := Ideal) arg5 harg5 x4 b).2 x) := by
  intro n h
  obtain ⟨i, j, rfl⟩ : ∃ (i : Fin 128) (j : Fin 128), x = ix2 i j := ⟨x 0, x 1, eq_ix2 x⟩
  unfold mwPiece
  have e : (shapeCast S128x128 (transpose S128x128 [1, 0] (bitcast S128x128 32 (View.readAt (Elt Ideal) arg5.view
      (Rect.unit (s := S512x448) ![0, 128 * b.val] S512x128.size (mm_ok b)).toLoadRect (harg5.unread x4)) bitcasts_S512x128_w8_S128x128_w32)
      transposes_S128x128_p1_0_S128x128) shapeCasts_S128x128_S128x128 : IVec S128x128 32) (ix2 i j)
    = bitcast S128x128 32 (View.readAt (Elt Ideal) arg5.view (Rect.unit (s := S512x448) ![0, 128 * b.val] S512x128.size (mm_ok b)).toLoadRect (harg5.unread x4))
      bitcasts_S512x128_w8_S128x128_w32 (ix2 j i) := by simp [pointwise]
  refine (congrArg (fun w : BitVec 32 => w.getLsbD n.val) e).trans ?_
  refine (bitcast_8_32_getLsbD_ix2 _ bitcasts_S512x128_w8_S128x128_w32 j i n.val n.isLt ⟨4 * j.val + n.val / 8, by omega⟩ rfl).trans ?_
  refine congrArg (fun w : BitVec 8 => w.getLsbD (n.val % 8)) ((harg5.readAt_unread x4 _ _).trans ((congrArg x4
    (idx2 (n0 := 512) (n1 := 448) (mm_ok b) ⟨4 * j.val + n.val / 8, by omega⟩ i (by simp; omega) (by omega))).trans ?_))
  refine congrArg x4 (congrArg₂ ix2 (Fin.ext ?_) (Fin.ext ?_))
  · show 0 + (4 * j.val + n.val / 8) = 4 * (0 + 1 * j.val) + n.val / 8; omega
  · show 128 * b.val + i.val = 128 * b.val + 1 * i.val; omega

theorem mwEnd_rel (x) : mwRel x4 ((mwEnd (F := Ideal) arg5 harg5 x4).1.emb x) ((mwEnd (F := Ideal) arg5 harg5 x4).2 x) := by
  intro n h
  obtain ⟨i, j, rfl⟩ : ∃ (i : Fin 64) (j : Fin 128), x = ix2 i j := ⟨x 0, x 1, eq_ix2 x⟩
  unfold mwEnd
  have e : (shapeCast S64x128 (transpose S64x128 [1, 0] (bitcast S128x64 32 (View.readAt (Elt Ideal) arg5.view
      (Rect.unit (s := S512x448) ![0, 384] S512x64.size inb_S512x448_S512x64_0_384).toLoadRect (harg5.unread x4)) bitcasts_S512x64_w8_S128x64_w32)
      transposes_S128x64_p1_0_S64x128) shapeCasts_S64x128_S64x128 : IVec S64x128 32) (ix2 i j)
    = bitcast S128x64 32 (View.readAt (Elt Ideal) arg5.view (Rect.unit (s := S512x448) ![0, 384] S512x64.size inb_S512x448_S512x64_0_384).toLoadRect (harg5.unread x4))
      bitcasts_S512x64_w8_S128x64_w32 (ix2 j i) := by simp [pointwise]
  refine (congrArg (fun w : BitVec 32 => w.getLsbD n.val) e).trans ?_
  refine (bitcast_8_32_getLsbD_ix2 _ bitcasts_S512x64_w8_S128x64_w32 j i n.val n.isLt ⟨4 * j.val + n.val / 8, by omega⟩ rfl).trans ?_
  refine congrArg (fun w : BitVec 8 => w.getLsbD (n.val % 8)) ((harg5.readAt_unread x4 _ _).trans ((congrArg x4
    (idx2 (n0 := 512) (n1 := 448) inb_S512x448_S512x64_0_384 ⟨4 * j.val + n.val / 8, by omega⟩ i (by simp; omega) (by omega))).trans ?_))
  refine congrArg x4 (congrArg₂ ix2 (Fin.ext ?_) (Fin.ext ?_))
  · show 0 + (4 * j.val + n.val / 8) = 4 * (0 + 1 * j.val) + n.val / 8; omega
  · show 384 + i.val = 384 + 1 * i.val; omega

/-- A mask word of `mw_s`, bit by bit. -/
theorem mw_canon (k : Fin 448) (l : Fin 128) (n : Fin 32) :
    (View.canon (Val := Elt Ideal) (mwPieces arg5 harg5 x4) (ix2 k l) : BitVec 32).getLsbD n.val
      = (x4 (ix2 ⟨4 * l.val + n.val / 8, by omega⟩ k)).getLsbD (n.val % 8) := by
  refine canon_rel (Val := Elt Ideal) (e := .i32) (mwRel x4) (mwPieces arg5 harg5 x4) (fun p hp => ?_) (ix2 k l) ?_ n (by show 4 * l.val + n.val / 8 < 512; omega)
  · rcases List.mem_cons.mp hp with rfl | hp
    · exact mwEnd_rel arg5 harg5 x4
    · refine forall_down (P := fun p => ∀ x, mwRel x4 (p.1.emb x) (p.2 x)) (fun b p hp => ?_) 3 p hp
      rw [List.mem_singleton] at hp
      subst hp
      exact mwPiece_rel arg5 harg5 x4 _
  · by_cases hr : k.val < 384
    · exact ⟨mwPiece arg5 harg5 x4 (sec (k.val / 128)), List.mem_cons_of_mem _ (mem_down (k := k.val / 128) (List.mem_singleton_self _) (by omega)),
        mem2 (mw3_ok _) k l (show 128 * (k.val / 128 % 3) ≤ _ by omega) (show _ < 128 * (k.val / 128 % 3) + 128 by omega) (by omega) (by omega)⟩
    · exact ⟨mwEnd arg5 harg5 x4, List.mem_cons_self, mem2 inb_S448x128_S64x128_384_0 k l (by omega) (by omega) (by omega) (by omega)⟩

/-- Whether a row of a byte tile is active, by the mask byte. -/
theorem act_mbLd (c : Dev nD) (arg12 : Memref sig .tc .vmem S448x128 .i32) (j : Fin 28) (i : Fin 4) (t : ℕ) (ht : t < 4) (p : Fin 8) (b : Fin 4) (l : Fin 128) :
    act (mbLd c arg5 harg5 arg12 x4 j i t) ⟨4 * p.val + b.val, by omega⟩ l
      = (x4 (ix2 ⟨4 * l.val + b.val, by omega⟩ ⟨4 * (4 * j.val + i.val) + t, by omega⟩)).getLsbD p.val := by
  unfold act mbLd mwLd
  rw [View.readCov_eq_canon', HS1_eq]
  have e : (Rect.unit (s := S448x128) ![(4 * (4 * j.val + i.val) + t) % 448, 0] S1x128.size (mw_ok _)).toLoadRect.idx (ix2 0 l)
    = ix2 (⟨(4 * (4 * j.val + i.val) + t) % 448 + 0, by omega⟩ : Fin 448) (⟨0 + l.val, by omega⟩ : Fin 128) := idx2 _ (0 : Fin 1) l _ _
  refine (congrArg (fun y => (View.canon (Val := Elt Ideal) (mwPieces arg5 harg5 x4) y : BitVec 32).getLsbD (8 * ((4 * p.val + b.val) % 4) + (4 * p.val + b.val) / 4)) e).trans ?_
  refine (mw_canon arg5 harg5 x4 _ _ ⟨8 * ((4 * p.val + b.val) % 4) + (4 * p.val + b.val) / 4, by have := p.isLt; omega⟩).trans ?_
  refine congrArg₂ (fun (w : BitVec 8) (n : ℕ) => w.getLsbD n) (congrArg x4 (congrArg₂ ix2 (Fin.ext ?_) (Fin.ext ?_))) ?_
  · have h1 : (4 * p.val + b.val) / 4 = p.val := by omega
    have h2 : (4 * p.val + b.val) % 4 = b.val := by omega
    show 4 * (0 + l.val) + (8 * ((4 * p.val + b.val) % 4) + (4 * p.val + b.val) / 4) / 8 = 4 * l.val + b.val; omega
  · show (4 * (4 * j.val + i.val) + t) % 448 + 0 = 4 * (4 * j.val + i.val) + t; omega
  · have h1 : (4 * p.val + b.val) / 4 = p.val := by omega
    have h2 : (4 * p.val + b.val) % 4 = b.val := by omega
    show (8 * ((4 * p.val + b.val) % 4) + (4 * p.val + b.val) / 4) % 8 = p.val; omega

end Masks
end Cert.KernelIdeal.Pay
-- ==== Proof.Grow.lean ====
/- What a grid step leaves in its blocks of row sums and of maxima, over the extended reals. -/
module
public import proofs.«01_k».proof.Proof.Scratch
@[expose] public section
noncomputable section
namespace Cert.KernelIdeal.Pay
open Cert.KernelIdeal Cert.KernelIdeal.Gen Idealize.ShloMosaic Idealize.ShloMosaic.TcCoe Idealize.SL.Sem
open Cert.KernelIdeal.Facts

/-- The row of the step's transposed activations that holds column 32c + m. -/
abbrev xrow (c : Fin 112) (m : Fin 32) : Fin 3584 := ⟨256 * (c.val / 8) + 8 * m.val + c.val % 8, by omega⟩

/-- The magnitude of one element of the step's product, zero where its mask bit is set: row `f` of the step, column 32c + m. -/
def gmB (x0 : Vec Ideal S3584x1536 .fp8e4m3) (x1 : Vec Ideal S1x1536 .f32) (x2 : Vec Ideal S1536x512 .fp8e5m2) (x4 : Vec Ideal S512x448 .i8)
    (f : Fin 512) (c : Fin 112) (m : Fin 32) : EReal :=
  if (x4 (ix2 f ⟨4 * c.val + m.val / 8, by omega⟩)).getLsbD (m.val % 8) then 0
  else mag (∑ n : Fin 1536, (x0 (ix2 (xrow c m) n) * x1 (ix2 0 n)) * x2 (ix2 n f))

section
variable (c : Dev nD) (arg1 : Memref sig .tc .vmem S3584x1536 .fp8e4m3) (harg1 : arg1.IsWhole)
  (arg2 : Memref sig .tc .vmem S1x1536 .f32) (harg2 : arg2.IsWhole) (arg3 : Memref sig .tc .vmem S1536x512 .fp8e5m2) (harg3 : arg3.IsWhole)
  (arg5 : Memref sig .tc .vmem S512x448 .i8) (harg5 : arg5.IsWhole) (arg11 : Memref sig .tc .vmem S4x448x128 .i32)
  (x0 : Vec Ideal S3584x1536 .fp8e4m3) (x1 : Vec Ideal S1x1536 .f32) (x2 : Vec Ideal S1536x512 .fp8e5m2) (x4 : Vec Ideal S512x448 .i8)

/-- The product at an index. -/
theorem product_apply (x : Vec Ideal S256x1536 .fp8e4m3) (sc : Vec Ideal S1x1536 .f32) (dy : Vec Ideal S1536x256 .fp8e5m2) (r k : Fin 256) :
    prod x sc dy (ix2 r k) = ∑ n : Fin 1536, (x (ix2 r n) * sc (ix2 0 n)) * dy (ix2 n k) := by
  unfold prod
  simp [pointwise]

theorem prodLd_apply (q : Fin 14) (h : Fin 2) (r k : Fin 256) :
    prodLd arg1 harg1 arg2 harg2 arg3 harg3 x0 x1 x2 q h (ix2 r k)
      = ∑ n : Fin 1536, (x0 (ix2 ⟨256 * q.val + r.val, by omega⟩ n) * x1 (ix2 0 n)) * x2 (ix2 n ⟨256 * h.val + k.val, by omega⟩) := by
  unfold prodLd
  refine (product_apply _ _ _ r k).trans (Finset.sum_congr rfl fun n _ => ?_)
  refine congrArg₂ _ (congrArg₂ _ ?_ ?_) ?_
  · refine (harg1.readAt_unread x0 _ _).trans ((congrArg x0 (idx2 (n0 := 3584) (n1 := 1536) (x_ok q) r n (by omega) (by omega))).trans
      (congrArg x0 (congrArg₂ ix2 rfl (Fin.ext (Nat.zero_add _)))))
  · refine (harg2.readAt_unread x1 _ _).trans ((congrArg x1 (idx2 (n0 := 1) (n1 := 1536) inb_S1x1536_S1x1536_0_0 (0 : Fin 1) n (by omega) (by omega))).trans
      (congrArg x1 (congrArg₂ ix2 rfl (Fin.ext (Nat.zero_add _)))))
  · refine (harg3.readAt_unread x2 _ _).trans ((congrArg x2 (idx2 (n0 := 1536) (n1 := 512) (dy_ok h) n k (by omega) (by omega))).trans
      (congrArg x2 (congrArg₂ ix2 (Fin.ext (Nat.zero_add _)) rfl)))

/-- A masked term of group `q`, sublane `s`, lane `l` of lane tile `g` is the masked magnitude at column 32(8q + s) + m. -/
theorem term_eq (q : Fin 14) (g : Fin 4) (m : Fin 32) (s : Fin 8) (l : Fin 128) :
    term (prodLd arg1 harg1 arg2 harg2 arg3 harg3 x0 x1 x2 q (hi g)) (lo g) (invLd c arg5 harg5 arg11 x4 q g) m.val (ix2 s l)
      = gmB x0 x1 x2 x4 ⟨128 * g.val + l.val, by omega⟩ ⟨8 * q.val + s.val, by omega⟩ m := by
  refine (term_apply _ _ _ m.val m.isLt s l).trans ?_
  rw [prodLd_apply, invLd_getLsbD arg5 harg5 x4 c arg11 q g (m.val / 8) (by omega) s l (m.val % 8) (by omega)]
  unfold gmB
  have eb : (⟨32 * q.val + 4 * s.val + m.val / 8, by omega⟩ : Fin 448) = ⟨4 * (8 * q.val + s.val) + m.val / 8, by omega⟩ := Fin.ext (by show 32 * q.val + 4 * s.val + m.val / 8 = 4 * (8 * q.val + s.val) + m.val / 8; omega)
  have ex : (⟨256 * q.val + (8 * m.val + s.val), by omega⟩ : Fin 3584) = xrow ⟨8 * q.val + s.val, by omega⟩ m :=
    Fin.ext (by show 256 * q.val + (8 * m.val + s.val) = 256 * ((8 * q.val + s.val) / 8) + 8 * m.val + (8 * q.val + s.val) % 8; omega)
  have ey : (⟨256 * (hi g).val + (128 * (lo g).val + l.val), by show 256 * (g.val / 2) + (128 * (g.val % 2) + l.val) < 512; omega⟩ : Fin 512) = ⟨128 * g.val + l.val, by omega⟩ :=
    Fin.ext (by show 256 * (g.val / 2) + (128 * (g.val % 2) + l.val) = 128 * g.val + l.val; omega)
  simp only [eb, ex, ey]
  cases (x4 (ix2 ⟨128 * g.val + l.val, by omega⟩ ⟨4 * (8 * q.val + s.val) + m.val / 8, by omega⟩)).getLsbD (m.val % 8) <;> simp

/-- What the stores of the groups leave: any way `Φ` to combine the 32 masked magnitudes of a block row, if the groups combine theirs so. -/
theorem groups_canon (op : FVec Ideal S8x128 .f32 → FVec Ideal S8x128 .f32 → FVec Ideal S8x128 .f32) (Φ : (Fin 32 → EReal) → EReal)
    (hΦ : ∀ res g inv s l, group op res g inv (ix3 0 s l) = Φ fun m => term res g inv m.val (ix2 s l)) (g : Fin 4) (b : Fin 112) (l : Fin 128) :
    View.canon (Val := Elt Ideal) (gPieces c arg1 harg1 arg2 harg2 arg3 harg3 arg5 harg5 arg11 x0 x1 x2 x4 op) (ix3 g b l)
      = Φ (gmB x0 x1 x2 x4 ⟨128 * g.val + l.val, by omega⟩ b) := by
  have piece (q : Fin 14) (g : Fin 4) (x) : (fun (y : S4x112x128.Idx) (v : EReal) => ∀ h, v = Φ (gmB x0 x1 x2 x4 ⟨128 * (y 0).val + (y 2).val, h⟩ (y 1)))
      ((gPiece c arg1 harg1 arg2 harg2 arg3 harg3 arg5 harg5 arg11 x0 x1 x2 x4 op q g).1.emb x) ((gPiece c arg1 harg1 arg2 harg2 arg3 harg3 arg5 harg5 arg11 x0 x1 x2 x4 op q g).2 x) := by
    intro h
    obtain ⟨u, s, l, rfl⟩ : ∃ (u : Fin 1) (s : Fin 8) (l : Fin 128), x = ix3 u s l := ⟨x 0, x 1, x 2, eq_ix3 x⟩
    obtain rfl : u = 0 := Fin.ext (by omega)
    refine (hΦ _ _ _ s l).trans (congrArg Φ (funext fun m => (term_eq c arg1 harg1 arg2 harg2 arg3 harg3 arg5 harg5 arg11 x0 x1 x2 x4 q g m s l).trans ?_))
    refine congrArg₂ (fun f b => gmB x0 x1 x2 x4 f b m) (Fin.ext ?_) (Fin.ext ?_)
    · show 128 * g.val + l.val = 128 * (g.val + 1 * 0) + (0 + 1 * l.val); omega
    · show 8 * q.val + s.val = 8 * q.val + 1 * s.val; omega
  refine canon_rel (Val := Elt Ideal) (e := .f32) (fun (y : S4x112x128.Idx) (v : EReal) => ∀ h, v = Φ (gmB x0 x1 x2 x4 ⟨128 * (y 0).val + (y 2).val, h⟩ (y 1))) (gPieces c arg1 harg1 arg2 harg2 arg3 harg3 arg5 harg5 arg11 x0 x1 x2 x4 op) (fun p hp => ?_) (ix3 g b l) ?_
    (show 128 * g.val + l.val < 512 by omega)
  · refine forall_down (P := fun p => ∀ x, (fun (y : S4x112x128.Idx) (v : EReal) => ∀ h, v = Φ (gmB x0 x1 x2 x4 ⟨128 * (y 0).val + (y 2).val, h⟩ (y 1))) (p.1.emb x) (p.2 x))
      (fun b p hp => ?_) 14 p hp
    simp only [List.mem_cons, List.not_mem_nil, or_false] at hp
    rcases hp with rfl | rfl | rfl | rfl <;> exact piece _ _
  · have hg : g = 3 ∨ g = 2 ∨ g = 1 ∨ g = 0 := by omega
    refine ⟨gPiece c arg1 harg1 arg2 harg2 arg3 harg3 arg5 harg5 arg11 x0 x1 x2 x4 op (grp (b.val / 8)) g, mem_down (k := b.val / 8) ?_ (by omega), ?_⟩
    · rcases hg with rfl | rfl | rfl | rfl <;> simp
    · exact mem3 (rs_ok _ g) g b l le_rfl (by omega) (show 8 * (b.val / 8 % 14) ≤ _ by omega) (show _ < 8 * (b.val / 8 % 14) + 8 by omega) (by omega) (by omega)

theorem rs_canon (g : Fin 4) (b : Fin 112) (l : Fin 128) :
    View.canon (Val := Elt Ideal) (gPieces c arg1 harg1 arg2 harg2 arg3 harg3 arg5 harg5 arg11 x0 x1 x2 x4 addf) (ix3 g b l)
      = ∑ m, gmB x0 x1 x2 x4 ⟨128 * g.val + l.val, by omega⟩ b m :=
  groups_canon c arg1 harg1 arg2 harg2 arg3 harg3 arg5 harg5 arg11 x0 x1 x2 x4 addf (fun f => ∑ m, f m)
    (fun res g inv s l => (group_addf_apply res g inv s l).trans (Finset.sum_range _)) g b l

theorem sup_range (f : ℕ → EReal) (n : ℕ) : (Finset.range n).sup f = Finset.univ.sup fun i : Fin n => f i.val := by
  rw [← Nat.Iio_eq_range, ← Fin.map_valEmbedding_univ, Finset.sup_map]; rfl

theorem inf_range (f : ℕ → EReal) (n : ℕ) : (Finset.range n).inf f = Finset.univ.inf fun i : Fin n => f i.val := by
  rw [← Nat.Iio_eq_range, ← Fin.map_valEmbedding_univ, Finset.inf_map]; rfl

theorem mx_canon (g : Fin 4) (b : Fin 112) (l : Fin 128) :
    View.canon (Val := Elt Ideal) (gPieces c arg1 harg1 arg2 harg2 arg3 harg3 arg5 harg5 arg11 x0 x1 x2 x4 maximumf) (ix3 g b l)
      = Finset.univ.sup (α := EReal) (gmB x0 x1 x2 x4 ⟨128 * g.val + l.val, by omega⟩ b) :=
  groups_canon c arg1 harg1 arg2 harg2 arg3 harg3 arg5 harg5 arg11 x0 x1 x2 x4 maximumf (fun f => Finset.univ.sup (α := EReal) f)
    (fun res g inv s l => (group_maximumf_apply res g inv s l).trans (sup_range _ _)) g b l

theorem growOut_apply (v : Vec Ideal S1x112x128 .f32) (l : Fin 128) (b : Fin 112) : growOut v (ix2 l b) = v (ix3 0 b l) := by
  unfold growOut k0_pay5809
  simp [pointwise]

theorem negInf : Ideal.ofBits .f32 4286578688#32 = ⊥ := by simp [Ideal.ofBits, Ideal.ieee]

theorem gmaxOut_apply (v : Vec Ideal S1x112x128 .f32) (r : Fin 4) (b : Fin 112) :
    gmaxOut v (ix2 r b) = Finset.univ.sup (α := EReal) fun i : Fin 32 => v (ix3 0 b ⟨32 * r.val + i.val, by omega⟩) := by
  unfold gmaxOut k0_pay5810
  simp [pointwise]
  rw [negInf]
  simp only [Nat.mul_comm r.val 32]
  rfl

/-- A lane tile's rows, loaded from `rs_s`. -/
theorem rowLd (arg : Memref sig .tc .vmem S4x112x128 .f32) (L : List (View.Piece (Elt Ideal) S4x112x128 .f32)) (g : Fin 4) (ok) (b : Fin 112) (l : Fin 128) :
    arg.view.readCov L (Rect.unit (s := S4x112x128) ![g.val, 0, 0] S1x112x128.size ok).toLoadRect (ix3 0 b l) = View.canon L (ix3 g b l) := by
  rw [View.readCov_eq_canon']
  refine congrArg (View.canon L) ((idx3 (n0 := 4) (n1 := 112) (n2 := 128) ok (0 : Fin 1) b l (by simp) (by omega) (by omega)).trans ?_)
  exact congrArg₂ (fun x y => ix3 g x y) (Fin.ext (Nat.zero_add _)) (Fin.ext (Nat.zero_add _))

variable (i : grid0.Coords) (arg4 : Memref sig .tc .vmem S512x3584 .i8) (harg4 : arg4.IsWhole) (arg6 : Memref sig .tc .vmem S1x4x128 .f32) (harg6 : arg6.IsWhole) (arg7 : Memref sig .tc .vmem S16x112 .f32) (harg7 : arg7.IsWhole)
  (arg8 : Memref sig .tc .vmem S512x112 .f32) (harg8 : arg8.IsWhole) (arg9 : Memref sig .tc .vmem S16x112 .f32) (harg9 : arg9.IsWhole)
  (arg10 : Memref sig .tc .vmem S16x112 .f32) (harg10 : arg10.IsWhole) (harg11 : arg11.IsWhole) (arg12 : Memref sig .tc .vmem S448x128 .i32) (harg12 : arg12.IsWhole)
  (arg13 : Memref sig .tc .vmem S4x112x128 .f32) (harg13 : arg13.IsWhole) (arg14 : Memref sig .tc .vmem S4x112x128 .f32) (harg14 : arg14.IsWhole)
  (arg15 : Memref sig .tc .vmem S448x128 .f32) (harg15 : arg15.IsWhole) (arg16 : Memref sig .tc .vmem S448x128 .f32) (harg16 : arg16.IsWhole)
  (x3 : Vec Ideal S512x3584 .i8) (x5 : Vec Ideal S1x4x128 .f32)

/-- A step's block of row sums: at row `f` and block column `b`, the sum of the 32 masked magnitudes. -/
theorem out7_apply (f : Fin 512) (b : Fin 112) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix2 f b)
      = ∑ m, gmB x0 x1 x2 x4 f b m := by
  unfold out0_A_7
  rw [View.read_writes_junk_eq_canon, out7_eq, HS2_eq]
  refine canon_rel (Val := Elt Ideal) (e := .f32) (fun (y : S512x112.Idx) (v : EReal) => v = ∑ m, gmB x0 x1 x2 x4 (y 0) (y 1) m) _ ?_ (ix2 f b) ?_
  · refine forall_down (P := fun p : View.Piece (Elt Ideal) S512x112 .f32 => ∀ x, (fun (y : S512x112.Idx) (v : EReal) => v = ∑ m, gmB x0 x1 x2 x4 (y 0) (y 1) m) (p.1.emb x) (p.2 x)) (fun k p hp => ?_) 4
    rw [List.mem_singleton] at hp
    subst hp
    intro x
    obtain ⟨l, b, rfl⟩ : ∃ (l : Fin 128) (b : Fin 112), x = ix2 l b := ⟨x 0, x 1, eq_ix2 x⟩
    refine (growOut_apply _ l b).trans ((rowLd arg13 _ ⟨k % 4, Nat.mod_lt _ (by decide)⟩ _ b l).trans ((rs_canon ..).trans ?_))
    refine congrArg₂ (fun f b => ∑ m, gmB x0 x1 x2 x4 f b m) (Fin.ext ?_) (Fin.ext ?_)
    · show 128 * (k % 4) + l.val = 128 * (k % 4) + 1 * l.val; omega
    · show b.val = 0 + 1 * b.val; omega
  · exact ⟨_, mem_down (k := f.val / 128) (List.mem_singleton.mpr rfl) (by omega),
      mem2 (grow_ok ⟨f.val / 128 % 4, Nat.mod_lt _ (by decide)⟩) f b (show 128 * (f.val / 128 % 4) ≤ _ by omega) (show _ < 128 * (f.val / 128 % 4) + 128 by omega) (by omega) (by omega)⟩

/-- A step's block of maxima: at block row `r` and block column `b`, the maximum of the block's masked magnitudes. -/
theorem out6_apply (r : Fin 16) (b : Fin 112) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix2 r b)
      = Finset.univ.sup (α := EReal) fun i : Fin 32 => Finset.univ.sup (α := EReal) (gmB x0 x1 x2 x4 ⟨32 * r.val + i.val, by omega⟩ b) := by
  unfold out0_A_6
  rw [View.read_writes_junk_eq_canon, out6_eq, HS3_eq]
  refine canon_rel (Val := Elt Ideal) (e := .f32) (fun (y : S16x112.Idx) (v : EReal) => ∀ h : ∀ i : Fin 32, 32 * (y 0).val + i.val < 512,
    v = Finset.univ.sup (α := EReal) fun i : Fin 32 => Finset.univ.sup (α := EReal) (gmB x0 x1 x2 x4 ⟨32 * (y 0).val + i.val, h i⟩ (y 1))) _ ?_ (ix2 r b) ?_ (fun i => by show 32 * r.val + i.val < 512; omega)
  · refine forall_down (P := fun p : View.Piece (Elt Ideal) S16x112 .f32 => ∀ x, (fun (y : S16x112.Idx) (v : EReal) => ∀ h : ∀ i : Fin 32, 32 * (y 0).val + i.val < 512,
      v = Finset.univ.sup (α := EReal) fun i : Fin 32 => Finset.univ.sup (α := EReal) (gmB x0 x1 x2 x4 ⟨32 * (y 0).val + i.val, h i⟩ (y 1))) (p.1.emb x) (p.2 x)) (fun k p hp => ?_) 4
    rw [List.mem_singleton] at hp
    subst hp
    intro x h
    obtain ⟨l, b, rfl⟩ : ∃ (l : Fin 4) (b : Fin 112), x = ix2 l b := ⟨x 0, x 1, eq_ix2 x⟩
    dsimp only
    rw [gmaxOut_apply]
    refine Finset.sup_congr rfl fun i _ => ?_
    refine (rowLd arg14 _ ⟨k % 4, Nat.mod_lt _ (by decide)⟩ _ b _).trans ?_
    refine (mx_canon c arg1 harg1 arg2 harg2 arg3 harg3 arg5 harg5 arg11 x0 x1 x2 x4 _ b _).trans ?_
    refine congrArg₂ (fun f b => Finset.univ.sup (α := EReal) (gmB x0 x1 x2 x4 f b)) (Fin.ext ?_) (Fin.ext ?_)
    · show 128 * (k % 4) + (32 * l.val + i.val) = 32 * (4 * (k % 4) + 1 * l.val) + i.val; omega
    · show b.val = 0 + 1 * b.val; omega
  · exact ⟨_, mem_down (k := r.val / 4) (List.mem_singleton.mpr rfl) (by omega),
      mem2 (gmax_ok ⟨r.val / 4 % 4, Nat.mod_lt _ (by decide)⟩) r b (show 4 * (r.val / 4 % 4) ≤ _ by omega) (show _ < 4 * (r.val / 4 % 4) + 4 by omega) (by omega) (by omega)⟩

end
end Cert.KernelIdeal.Pay
-- ==== Proof.Spec.lean ====
/- The scores as plain sums, maxima and minima over the arguments. Both programs are shown equal to these. -/
module
public import Idealize.ShloMosaic.PureOps.Ideal
public import Idealize.ShloMosaic.Lib.Pointwise
@[expose] public section
noncomputable section
namespace Rigl
open Idealize.ShloMosaic

/-- The absolute value. -/
def mag (x : EReal) : EReal := max x (-x)

variable (x : Vec Ideal ⟨3, ![6, 256, 3584]⟩ .fp8e4m3) (xs : Vec Ideal ⟨2, ![6, 256]⟩ .f32) (dy : Vec Ideal ⟨3, ![6, 256, 18944]⟩ .fp8e5m2)
  (ds : Vec Ideal ⟨2, ![6, 256]⟩ .f32) (w : Vec Ideal ⟨2, ![18944, 3584]⟩ .i8) (ws : Vec Ideal ⟨1, ![18944]⟩ .f32) (mk : Vec Ideal ⟨2, ![18944, 448]⟩ .i8)

/-- Token `n`, of six batches of 256. -/
def tok (n : Fin 1536) : Fin 6 × Fin 256 := (⟨n.val / 256, by omega⟩, ⟨n.val % 256, by omega⟩)

/-- Whether the weight at row `f` and column 32c + j is active: a bit of the packed mask. -/
def active (f : Fin 18944) (c : Fin 112) (j : Fin 32) : Bool := (mk (ix2 f ⟨4 * c.val + j.val / 8, by omega⟩)).getLsbD (j.val % 8)

/-- The magnitude of the dense gradient, dyᵀ x, at row `f` and column 32c + j. -/
def grad (f : Fin 18944) (c : Fin 112) (j : Fin 32) : EReal :=
  mag (∑ n : Fin 1536, (dy (ix3 (tok n).1 (tok n).2 f) * ds (ix2 (tok n).1 (tok n).2)) *
    (x (ix3 (tok n).1 (tok n).2 ⟨32 * c.val + j.val, by omega⟩) * xs (ix2 (tok n).1 (tok n).2)))

/-- The grow score of one weight: the gradient's magnitude where the weight is inactive, else zero. -/
def growAt (f : Fin 18944) (c : Fin 112) (j : Fin 32) : EReal := if active mk f c j then 0 else grad x xs dy ds f c j

/-- Result 2: the grow scores of 32 columns summed. -/
def grow (f : Fin 18944) (c : Fin 112) : EReal := ∑ j, growAt x xs dy ds mk f c j

/-- Result 1: the greatest grow score of a 32 by 32 block. -/
def growMax (r : Fin 592) (c : Fin 112) : EReal :=
  Finset.univ.sup (α := EReal) fun i : Fin 32 => Finset.univ.sup (α := EReal) fun j => growAt x xs dy ds mk ⟨32 * r.val + i.val, by omega⟩ c j

/-- The magnitude of the weight at row `f` and column 32c + j. -/
def weight (f : Fin 18944) (c : Fin 112) (j : Fin 32) : EReal := mag (Ideal.e4m3fn (w (ix2 f ⟨32 * c.val + j.val, by omega⟩))) * ws (ix1 f)

/-- Result 4: the magnitudes of a block's active weights summed. -/
def dropSum (r : Fin 592) (c : Fin 112) : EReal :=
  ∑ i : Fin 32, ∑ j : Fin 32, if active mk ⟨32 * r.val + i.val, by omega⟩ c j then weight w ws ⟨32 * r.val + i.val, by omega⟩ c j else 0

/-- The least magnitude of a block's active weights, infinity if there is none. -/
def dropInf (r : Fin 592) (c : Fin 112) : EReal :=
  Finset.univ.inf (α := EReal) fun i : Fin 32 => Finset.univ.inf (α := EReal) fun j : Fin 32 =>
    if active mk ⟨32 * r.val + i.val, by omega⟩ c j then weight w ws ⟨32 * r.val + i.val, by omega⟩ c j else ⊤

/-- Result 3: that least magnitude, zero where it is infinite. -/
def dropMin (r : Fin 592) (c : Fin 112) : EReal := if dropInf w ws mk r c = ⊤ then 0 else dropInf w ws mk r c

theorem mag_of_nonneg {y : EReal} (h : 0 ≤ y) : mag y = y := max_eq_left ((EReal.neg_le_neg_iff.mpr h).trans (by rw [neg_zero]; exact h))

theorem mag_nonneg' (y : EReal) : 0 ≤ mag y := by
  rcases le_total 0 y with h | h
  · exact h.trans (le_max_left _ _)
  · exact (by simpa using EReal.neg_le_neg_iff.mpr h : (0 : EReal) ≤ -y).trans (le_max_right _ _)

theorem dropInf_nonneg (hs : ∀ f, (0 : EReal) ≤ ws (ix1 f)) (r : Fin 592) (c : Fin 112) : 0 ≤ dropInf w ws mk r c := by
  refine Finset.le_inf fun i _ => Finset.le_inf fun j _ => ?_
  split
  · exact mul_nonneg (mag_nonneg' _) (hs _)
  · exact le_top

end Rigl
-- ==== Proof.KArr.lean ====
/- The arrays the kernel leaves, index by index, in its arguments. -/
module
public import proofs.«01_k».proof.Proof.Grow
public import proofs.«01_k».proof.Proof.Spec
public import proofs.«01_k».proof.Proof.Gen.KernelIdeal.Value
public import Idealize.ShloMosaic.Lib.Claim
public import Idealize.ShloMosaic.Lib.Pipeline.ValueKit
@[expose] public section
noncomputable section
namespace Cert.KernelIdeal.Pay
open Cert.KernelIdeal Cert.KernelIdeal.Gen Idealize.ShloMosaic Idealize.ShloMosaic.TcCoe Idealize.SL.Sem
open Cert.KernelIdeal.Facts
variable (m : (ℓ : Loc nD τ sig) → Buf (Elt Ideal) ℓ) (c : Dev nD)

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = t.val := (by decide +kernel : ∀ t : Fin grid0.N, win0_2.index t 0 = 0 ∧ win0_2.index t 1 = t.val)
theorem index3 : ∀ t : Fin cfg0.N, win0_3.index t 0 = t.val ∧ win0_3.index t 1 = 0 := (by decide +kernel : ∀ t : Fin grid0.N, win0_3.index t 0 = t.val ∧ win0_3.index t 1 = 0)
theorem index4 : ∀ t : Fin cfg0.N, win0_4.index t 0 = t.val ∧ win0_4.index t 1 = 0 := (by decide +kernel : ∀ t : Fin grid0.N, win0_4.index t 0 = t.val ∧ win0_4.index t 1 = 0)
theorem index5 : ∀ t : Fin cfg0.N, win0_5.index t 0 = t.val ∧ win0_5.index t 1 = 0 ∧ win0_5.index t 2 = 0 := (by decide +kernel : ∀ t : Fin grid0.N, win0_5.index t 0 = t.val ∧ win0_5.index t 1 = 0 ∧ win0_5.index t 2 = 0)

/-- The row of the weights that row `f` of step `t` is. -/
def row (t : Fin cfg0.N) (f : Fin 512) : Fin 18944 := ⟨512 * t.val + f.val, by have : t.val < 37 := t.isLt; omega⟩

/-- What a grid step's blocks hold of the arguments: the activations' codes, columns permuted, -/
theorem in0 (t : Fin cfg0.N) (a : Fin 3584) (n : Fin 1536) :
    (iblk m c 0 t (ix2 a n) : EReal) = m (c, Proc.tc.devRef main_arg0) (ix3 (Rigl.tok n).1 (Rigl.tok n).2 ⟨a.val / 256 * 256 + a.val % 8 * 32 + a.val / 8 % 32, by omega⟩) := by
  simp only [iblk]
  blk_simp
  entry_read
  simp [pointwise, index0 t, Rigl.tok]
/-- the products of the two scales of each token, -/
theorem in1 (t : Fin cfg0.N) (n : Fin 1536) :
    (iblk m c 1 t (ix2 0 n) : EReal) = HMul.hMul (α := EReal) (β := EReal) (m (c, Proc.tc.devRef main_arg1) (ix2 (Rigl.tok n).1 (Rigl.tok n).2)) (m (c, Proc.tc.devRef main_arg3) (ix2 (Rigl.tok n).1 (Rigl.tok n).2)) := by
  simp only [iblk]
  blk_simp
  entry_read
  simp [pointwise, index1 t, Rigl.tok]
/-- the step's 512 columns of the output gradients' codes, -/
theorem in2 (t : Fin cfg0.N) (n : Fin 1536) (f : Fin 512) :
    (iblk m c 2 t (ix2 n f) : EReal) = m (c, Proc.tc.devRef main_arg2) (ix3 (Rigl.tok n).1 (Rigl.tok n).2 (row t f)) := by
  simp only [iblk]
  blk_simp
  entry_read
  simp [pointwise, index2 t, Rigl.tok]
  refine congrArg (m (c, Proc.tc.devRef main_arg2)) (congrArg (ix3 _ _) (Fin.ext ?_))
  show win0_2.index t 1 * 512 + 1 * f.val = 512 * t.val + f.val
  rw [(index2 t).2]; omega
/-- its rows of the weights' codes, -/
theorem in3 (t : Fin cfg0.N) (f : Fin 512) (d : Fin 3584) : (iblk m c 3 t (ix2 f d) : BitVec 8) = m (c, Proc.tc.devRef main_arg4) (ix2 (row t f) d) := by
  simp only [iblk]
  blk_simp
  entry_read
  refine congrArg (m (c, Proc.tc.devRef main_arg4)) ((eq_ix2 _).trans (congrArg₂ ix2 (Fin.ext ?_) (Fin.ext ?_)))
  · show win0_3.index t 0 * 512 + 1 * f.val = 512 * t.val + f.val
    rw [(index3 t).1]; omega
  · show win0_3.index t 1 * 3584 + 1 * d.val = d.val
    rw [(index3 t).2]; omega
/-- its rows of the mask's bytes, -/
theorem in4 (t : Fin cfg0.N) (f : Fin 512) (d : Fin 448) : (iblk m c 4 t (ix2 f d) : BitVec 8) = m (c, Proc.tc.devRef main_arg6) (ix2 (row t f) d) := by
  simp only [iblk]
  blk_simp
  entry_read
  refine congrArg (m (c, Proc.tc.devRef main_arg6)) ((eq_ix2 _).trans (congrArg₂ ix2 (Fin.ext ?_) (Fin.ext ?_)))
  · show win0_4.index t 0 * 512 + 1 * f.val = 512 * t.val + f.val
    rw [(index4 t).1]; omega
  · show win0_4.index t 1 * 448 + 1 * d.val = d.val
    rw [(index4 t).2]; omega
/-- and its rows' scales. -/
theorem in5 (t : Fin cfg0.N) (b : Fin 4) (l : Fin 128) : (iblk m c 5 t (ix3 0 b l) : EReal) = m (c, Proc.tc.devRef main_arg5) (ix1 (row t ⟨4 * l.val + b.val, by omega⟩)) := by
  simp only [iblk]
  blk_simp
  entry_read
  have e : ((View.whole main_v7).slice (win0_5.rect t)).emb (ix3 0 b l) = (ix3 ⟨t.val, t.isLt⟩ b l : S37x4x128.Idx) := by
    refine (eq_ix3 _).trans ?_
    have h0 : (⟨win0_5.index t 0 * 1 + 1 * 0, by rw [(index5 t).1]; have : t.val < 37 := t.isLt; omega⟩ : Fin 37) = ⟨t.val, t.isLt⟩ := Fin.ext (by show win0_5.index t 0 * 1 + 1 * 0 = t.val; rw [(index5 t).1]; omega)
    have h1 : (⟨win0_5.index t 1 * 4 + 1 * b.val, by rw [(index5 t).2.1]; omega⟩ : Fin 4) = b := Fin.ext (by show win0_5.index t 1 * 4 + 1 * b.val = b.val; rw [(index5 t).2.1]; omega)
    have h2 : (⟨win0_5.index t 2 * 128 + 1 * l.val, by rw [(index5 t).2.2]; omega⟩ : Fin 128) = l := Fin.ext (by show win0_5.index t 2 * 128 + 1 * l.val = l.val; rw [(index5 t).2.2]; omega)
    exact (congrArg₂ (fun x y => ix3 x y _) h0 h1).trans (congrArg (ix3 _ _) h2)
  rw [e]
  simp [pointwise]
  refine congrArg (m (c, Proc.tc.devRef main_arg5)) (congrArg ix1 (Fin.ext ?_))
  show t.val * 512 + l.val * 4 + b.val = 512 * t.val + (4 * l.val + b.val)
  omega

/-- A step's masked magnitudes are the grow scores of its rows. -/
theorem gmB_eq (t : Fin cfg0.N) (f : Fin 512) (b : Fin 112) (j : Fin 32) :
    gmB (iblk m c 0 t) (iblk m c 1 t) (iblk m c 2 t) (iblk m c 4 t) f b j
      = Rigl.growAt (m (c, Proc.tc.devRef main_arg0)) (m (c, Proc.tc.devRef main_arg1)) (m (c, Proc.tc.devRef main_arg2)) (m (c, Proc.tc.devRef main_arg3))
          (m (c, Proc.tc.devRef main_arg6)) (row t f) b j := by
  unfold gmB Rigl.growAt Rigl.active Rigl.grad
  have hb := in4 m c t f ⟨4 * b.val + j.val / 8, by omega⟩
  refine if_congr (iff_of_eq (congrArg (fun w : BitVec 8 => w.getLsbD (j.val % 8) = true) hb)) rfl (congrArg mag (Finset.sum_congr rfl fun n _ => ?_))
  rw [in0, in1, in2]
  have e : (⟨(xrow b j).val / 256 * 256 + (xrow b j).val % 8 * 32 + (xrow b j).val / 8 % 32, by omega⟩ : Fin 3584) = ⟨32 * b.val + j.val, by omega⟩ := by
    refine Fin.ext ?_
    show (256 * (b.val / 8) + 8 * j.val + b.val % 8) / 256 * 256 + (256 * (b.val / 8) + 8 * j.val + b.val % 8) % 8 * 32 + (256 * (b.val / 8) + 8 * j.val + b.val % 8) / 8 % 32 = 32 * b.val + j.val
    omega
  rw [e]
  ac_rfl

theorem index6 : ∀ t : Fin cfg0.N, win0_6.index t 0 = t.val ∧ win0_6.index t 1 = 0 := (by decide +kernel : ∀ t : Fin grid0.N, win0_6.index t 0 = t.val ∧ win0_6.index t 1 = 0)
theorem index7 : ∀ t : Fin cfg0.N, win0_7.index t 0 = t.val ∧ win0_7.index t 1 = 0 := (by decide +kernel : ∀ t : Fin grid0.N, win0_7.index t 0 = t.val ∧ win0_7.index t 1 = 0)

/-- The block row of the result that block row `r` of step `t` is. -/
def blockRow (t : Fin cfg0.N) (r : Fin 16) : Fin 592 := ⟨16 * t.val + r.val, by have : t.val < 37 := t.isLt; omega⟩

/-- Row 32r + i of a step is row i of block row r of the step. -/
theorem row_block (t : Fin cfg0.N) (r : Fin 16) (i : Fin 32) : row t ⟨32 * r.val + i.val, by omega⟩ = ⟨32 * (blockRow t r).val + i.val, by have := (blockRow t r).isLt; omega⟩ :=
  Fin.ext (by show 512 * t.val + (32 * r.val + i.val) = 32 * (16 * t.val + r.val) + i.val; omega)

/-- Result 1 of the kernel. -/
theorem arr6 : (dats m 0 c).arrAt 6 cfg0.N = fun y => Rigl.growMax (m (c, Proc.tc.devRef main_arg0)) (m (c, Proc.tc.devRef main_arg1)) (m (c, Proc.tc.devRef main_arg2)) (m (c, Proc.tc.devRef main_arg3))
          (m (c, Proc.tc.devRef main_arg6)) (y 0) (y 1) := by
  refine (dats m 0 c).arrAt_eq_of_covers 6 _ (by decide +kernel) fun t hf y => ?_
  blk_simp
  rw [after0_6]
  simp only [outsAt0]
  obtain ⟨r, b, rfl⟩ : ∃ (r : Fin 16) (b : Fin 112), y = ix2 r b := ⟨y 0, y 1, eq_ix2 y⟩
  have e0 : ((View.whole main_v8_0).slice (win0_6.rect t)).emb (ix2 r b) 0 = blockRow t r := Fin.ext (by
    show win0_6.index t 0 * 16 + 1 * r.val = 16 * t.val + r.val
    rw [(index6 t).1]; omega)
  have e1 : ((View.whole main_v8_0).slice (win0_6.rect t)).emb (ix2 r b) 1 = b := Fin.ext (by
    show win0_6.index t 1 * 112 + 1 * b.val = b.val
    rw [(index6 t).2]; omega)
  refine (out6_apply ..).trans (Eq.trans ?_ (congrArg₂ (Rigl.growMax _ _ _ _ _) e0 e1).symm)
  refine Finset.sup_congr (α := EReal) rfl fun i _ => Finset.sup_congr (α := EReal) rfl fun j _ => (gmB_eq m c t _ b j).trans ?_
  rw [row_block]

/-- Result 2 of the kernel. -/
theorem arr7 : (dats m 0 c).arrAt 7 cfg0.N = fun y => Rigl.grow (m (c, Proc.tc.devRef main_arg0)) (m (c, Proc.tc.devRef main_arg1)) (m (c, Proc.tc.devRef main_arg2)) (m (c, Proc.tc.devRef main_arg3))
          (m (c, Proc.tc.devRef main_arg6)) (y 0) (y 1) := by
  refine (dats m 0 c).arrAt_eq_of_covers 7 _ (by decide +kernel) fun t hf y => ?_
  blk_simp
  rw [after0_7]
  simp only [outsAt0]
  obtain ⟨f, b, rfl⟩ : ∃ (f : Fin 512) (b : Fin 112), y = ix2 f b := ⟨y 0, y 1, eq_ix2 y⟩
  have e0 : ((View.whole main_v8_1).slice (win0_7.rect t)).emb (ix2 f b) 0 = row t f := Fin.ext (by
    show win0_7.index t 0 * 512 + 1 * f.val = 512 * t.val + f.val
    rw [(index7 t).1]; omega)
  have e1 : ((View.whole main_v8_1).slice (win0_7.rect t)).emb (ix2 f b) 1 = b := Fin.ext (by
    show win0_7.index t 1 * 112 + 1 * b.val = b.val
    rw [(index7 t).2]; omega)
  refine (out7_apply ..).trans (Eq.trans ?_ (congrArg₂ (Rigl.grow _ _ _ _ _) e0 e1).symm)
  exact Finset.sum_congr rfl fun j _ => gmB_eq m c t f b j
end Cert.KernelIdeal.Pay
-- ==== Proof.Drop.lean ====
/- What a grid step leaves in its blocks of kept weights' minima and sums, over the extended reals. -/
module
public import proofs.«01_k».proof.Proof.Grow
@[expose] public section
noncomputable section
namespace Cert.KernelIdeal.Pay
open Cert.KernelIdeal Cert.KernelIdeal.Gen Idealize.ShloMosaic Idealize.ShloMosaic.TcCoe Idealize.SL.Sem
open Cert.KernelIdeal.Facts

/-- The magnitude of the weight at row `f` and column 32c + 8t + p if it is active, the value of the code `z` if not. -/
def kB (x3 : Vec Ideal S512x3584 .i8) (x4 : Vec Ideal S512x448 .i8) (z : BitVec 8) (f : Fin 512) (c : Fin 112) (t : Fin 4) (p : Fin 8) : EReal :=
  Ideal.e4m3fn (if (x4 (ix2 f ⟨4 * c.val + t.val, by omega⟩)).getLsbD p.val then x3 (ix2 f ⟨32 * c.val + 8 * t.val + p.val, by omega⟩) &&& 127#8 else z)

section
variable (c : Dev nD) (arg4 : Memref sig .tc .vmem S512x3584 .i8) (harg4 : arg4.IsWhole)
  (arg5 : Memref sig .tc .vmem S512x448 .i8) (harg5 : arg5.IsWhole) (arg12 : Memref sig .tc .vmem S448x128 .i32)
  (x3 : Vec Ideal S512x3584 .i8) (x4 : Vec Ideal S512x448 .i8)

/-- One byte of a tile of masked weights. -/
theorem byte_eq (z : BitVec 8) (j : Fin 28) (i : Fin 4) (t : Fin 4) (p : Fin 8) (b : Fin 4) (l : Fin 128) :
    Ideal.e4m3fn (if act (mbLd c arg5 harg5 arg12 x4 j i t.val) ⟨4 * p.val + b.val, by omega⟩ l then
        wbyte (wLd arg4 harg4 x3 j) (sl i t.val) ⟨4 * p.val + b.val, by omega⟩ l &&& 127#8 else z)
      = kB x3 x4 z ⟨4 * l.val + b.val, by omega⟩ ⟨4 * j.val + i.val, by omega⟩ t p := by
  rw [act_mbLd arg5 harg5 x4 c arg12 j i t.val t.isLt p b l]
  have e : wbyte (wLd arg4 harg4 x3 j) (sl i t.val) ⟨4 * p.val + b.val, by omega⟩ l
      = x3 (ix2 ⟨4 * l.val + b.val, by omega⟩ ⟨32 * (4 * j.val + i.val) + 8 * t.val + p.val, by omega⟩) := by
    have h1 : (4 * p.val + b.val) / 4 = p.val := by omega
    have h2 : (4 * p.val + b.val) % 4 = b.val := by omega
    unfold wbyte wLd
    refine (harg4.readAt_unread x3 _ _).trans ((congrArg x3 (idx2 (n0 := 512) (n1 := 3584) (w_ok j) _ _ ?_ ?_)).trans (congrArg x3 (congrArg₂ ix2 (Fin.ext ?_) (Fin.ext ?_))))
    · show 0 + (4 * l.val + (4 * p.val + b.val) % 4) < 512; omega
    · show 128 * j.val + (8 * ((4 * i.val + t.val) % 16) + (4 * p.val + b.val) / 4) < 3584; omega
    · show 0 + (4 * l.val + (4 * p.val + b.val) % 4) = 4 * l.val + b.val; omega
    · show 128 * j.val + (8 * ((4 * i.val + t.val) % 16) + (4 * p.val + b.val) / 4) = 32 * (4 * j.val + i.val) + 8 * t.val + p.val; omega
  rw [e]
  rfl

/-- What the stores of the tiles leave: any way `Φ` to combine the 32 bytes of a block row, if the tiles combine theirs so. -/
theorem tiles_canon (z : BitVec 8) (T : (j : Fin 28) → FVec Ideal S16x128 .f32) (Φ : (Fin 8 → Fin 4 → EReal) → EReal)
    (hΦ : ∀ (j : Fin 28) (i b : Fin 4) (l : Fin 128), T j (ix2 ⟨4 * i.val + b.val, by omega⟩ l) = Φ fun p t => kB x3 x4 z ⟨4 * l.val + b.val, by omega⟩ ⟨4 * j.val + i.val, by omega⟩ t p)
    (k : Fin 112) (b : Fin 4) (l : Fin 128) :
    View.canon (Val := Elt Ideal) (down (fun j => [(⟨Rect.unit (s := S448x128) ![16 * (til j).val, 0] S16x128.size (ws_ok (til j)), T (til j)⟩ : View.Piece (Elt Ideal) S448x128 .f32)]) 28)
        (ix2 ⟨4 * k.val + b.val, by omega⟩ l)
      = Φ fun p t => kB x3 x4 z ⟨4 * l.val + b.val, by omega⟩ k t p := by
  have key := canon_rel (Val := Elt Ideal) (e := .f32) (fun (y : S448x128.Idx) (v : EReal) => ∀ (k : Fin 112) (b : Fin 4) (l : Fin 128), (y 0).val = 4 * k.val + b.val → (y 1).val = l.val →
    v = Φ fun p t => kB x3 x4 z ⟨4 * l.val + b.val, by omega⟩ k t p)
    (down (fun j => [(⟨Rect.unit (s := S448x128) ![16 * (til j).val, 0] S16x128.size (ws_ok (til j)), T (til j)⟩ : View.Piece (Elt Ideal) S448x128 .f32)]) 28)
    ?_ (ix2 ⟨4 * k.val + b.val, by omega⟩ l) ?_
  · exact key k b l rfl rfl
  · refine forall_down (P := fun p : View.Piece (Elt Ideal) S448x128 .f32 => ∀ x, (fun (y : S448x128.Idx) (v : EReal) => ∀ (k : Fin 112) (b : Fin 4) (l : Fin 128), (y 0).val = 4 * k.val + b.val →
      (y 1).val = l.val → v = Φ fun p t => kB x3 x4 z ⟨4 * l.val + b.val, by omega⟩ k t p) (p.1.emb x) (p.2 x)) (fun j p hp => ?_) 28
    rw [List.mem_singleton] at hp
    subst hp
    intro x
    obtain ⟨a, l, rfl⟩ : ∃ (a : Fin 16) (l : Fin 128), x = ix2 a l := ⟨x 0, x 1, eq_ix2 x⟩
    intro k b l' h0 h1
    have h0' : 16 * (til j).val + 1 * a.val = 4 * k.val + b.val := h0
    have h1' : 0 + 1 * l.val = l'.val := h1
    obtain rfl : l = l' := Fin.ext (by omega)
    have ha : a = ⟨4 * (a.val / 4) + b.val, by omega⟩ := Fin.ext (by show a.val = 4 * (a.val / 4) + b.val; omega)
    have hk : k = ⟨4 * (til j).val + a.val / 4, by omega⟩ := Fin.ext (by show k.val = 4 * (til j).val + a.val / 4; omega)
    have := hΦ (til j) ⟨a.val / 4, by omega⟩ b l
    rw [hk]
    refine Eq.trans ?_ this
    exact congrArg (fun a => T (til j) (ix2 a l)) ha
  · exact ⟨_, mem_down (k := k.val / 4) (List.mem_singleton.mpr rfl) (by omega),
      mem2 (ws_ok (til (k.val / 4))) ⟨4 * k.val + b.val, by omega⟩ l (show 16 * (k.val / 4 % 28) ≤ 4 * k.val + b.val by omega) (show 4 * k.val + b.val < 16 * (k.val / 4 % 28) + 16 by omega) (by omega) (by omega)⟩

theorem ws_canon (k : Fin 112) (b : Fin 4) (l : Fin 128) :
    View.canon (Val := Elt Ideal) (sPieces c arg4 harg4 arg5 harg5 arg12 x3 x4) (ix2 ⟨4 * k.val + b.val, by omega⟩ l)
      = ∑ p : Fin 8, ∑ t : Fin 4, kB x3 x4 0#8 ⟨4 * l.val + b.val, by omega⟩ k t p := by
  refine tiles_canon x3 x4 0#8 (fun j => sumTile subI (wLd arg4 harg4 x3 j) (mbLd c arg5 harg5 arg12 x4 j)) (fun f => ∑ p, ∑ t, f p t) (fun j i b l => ?_) k b l
  refine (sumTile_apply _ _ _ i b l).trans (Finset.sum_congr rfl fun p _ => (Finset.sum_range _).trans (Finset.sum_congr rfl fun t _ => ?_))
  exact (wZero_apply _ _ _ _ l).trans (byte_eq c arg4 harg4 arg5 harg5 arg12 x3 x4 0#8 j i t p b l)

theorem wm_canon (k : Fin 112) (b : Fin 4) (l : Fin 128) :
    View.canon (Val := Elt Ideal) (mPieces c arg4 harg4 arg5 harg5 arg12 x3 x4) (ix2 ⟨4 * k.val + b.val, by omega⟩ l)
      = Finset.univ.inf (α := EReal) fun p : Fin 8 => Finset.univ.inf (α := EReal) fun t : Fin 4 => kB x3 x4 126#8 ⟨4 * l.val + b.val, by omega⟩ k t p := by
  refine tiles_canon x3 x4 126#8 (fun j => minTile subI (wLd arg4 harg4 x3 j) (mbLd c arg5 harg5 arg12 x4 j))
    (fun f => Finset.univ.inf (α := EReal) fun p => Finset.univ.inf (α := EReal) fun t => f p t) (fun j i b l => ?_) k b l
  refine (minTile_apply _ _ _ i b l).trans (Finset.inf_congr rfl fun p _ => (inf_range _ 4).trans (Finset.inf_congr rfl fun t _ => ?_))
  exact (wTop_apply _ _ _ _ l).trans (byte_eq c arg4 harg4 arg5 harg5 arg12 x3 x4 126#8 j i t p b l)

theorem posInf : Ideal.ofBits .f32 2139095040#32 = ⊤ := by simp [Ideal.ofBits, Ideal.ieee]

theorem dsumOut_apply (s : ℕ → Vec Ideal S112x128 .f32) (sc : ℕ → Vec Ideal S1x1x128 .f32) (r : Fin 16) (k : Fin 112) :
    dsumOut s sc (ix2 r k) = ∑ i : Fin 8, ∑ b : Fin 4, s b.val (ix2 k ⟨8 * r.val + i.val, by omega⟩) * sc b.val (ix3 0 0 ⟨8 * r.val + i.val, by omega⟩) := by
  unfold dsumOut k0_pay1
  simp [pointwise]
  refine Finset.sum_congr rfl fun i _ => (chain_addf_apply _ 3 _).trans ((Finset.sum_range _).trans (Finset.sum_congr rfl fun b _ => ?_))
  simp [pointwise, Nat.mul_comm r.val 8]

theorem sel (x y : BitVec 32) (a b : EReal) : (if BitVec.ofBool (x &&& y != 0#32) = 1#1 then a else b) = if x &&& y = 0#32 then b else a := by
  by_cases h : x &&& y = 0#32
  · rw [if_pos h, h]; rfl
  · rw [if_neg h, bne_iff_ne.mpr h]; rfl

/-- The least of a row's scaled minima, a row without an active weight counted as infinity. -/
def minRows (any : IVec S112x128 32) (s : ℕ → Vec Ideal S112x128 .f32) (sc : ℕ → Vec Ideal S1x1x128 .f32) (r : Fin 16) (k : Fin 112) : EReal :=
  Finset.univ.inf (α := EReal) fun i : Fin 8 => Finset.univ.inf (α := EReal) fun b : Fin 4 =>
    if any (ix2 k ⟨8 * r.val + i.val, by omega⟩) &&& BitVec.ofNat 32 (255 * 2 ^ (8 * b.val)) = 0#32 then ⊤
    else s b.val (ix2 k ⟨8 * r.val + i.val, by omega⟩) * sc b.val (ix3 0 0 ⟨8 * r.val + i.val, by omega⟩)

theorem dminOut_apply (any : IVec S112x128 32) (s : ℕ → Vec Ideal S112x128 .f32) (sc : ℕ → Vec Ideal S1x1x128 .f32) (r : Fin 16) (k : Fin 112) :
    dminOut any s sc (ix2 r k) = if minRows any s sc r k = ⊤ then 0 else minRows any s sc r k := by
  have e : (Finset.fold min (⊤ : EReal) (fun k_1 : Fin 8 => chain minimumf (fun b => select
      (cmpi CmpIPredicate.ne (andi any (broadcast S112x128 (BitVec.ofNat 32 (255 * 2 ^ (8 * b))))) (broadcast S112x128 0#32))
      (mulf (s b) (broadcastTo S112x128 (shapeCast S1x128 (sc b) shapeCasts_S1x1x128_S1x128) broadcasts_S1x128_S112x128))
      (broadcast S112x128 (Ideal.ofBits FTy.f32 2139095040#32))) 3 (ix2 k ⟨r.val * 8 + k_1.val, by omega⟩)) Finset.univ : EReal) = minRows any s sc r k := by
    unfold minRows
    refine Finset.inf_congr (α := EReal) rfl fun i _ => (chain_minimumf_apply _ 3 _).trans ((inf_range _ 4).trans (Finset.inf_congr rfl fun b _ => ?_))
    simp [pointwise, Nat.mul_comm r.val 8, posInf]
    simp only [Scalar.select, IntOp.cmpi, IntOp.andi]
    exact sel _ _ _ _
  rw [← e]
  unfold dminOut k0_pay2
  simp [pointwise]
  rw [posInf]

/-- A byte of a word is zero where none of its bits is set. -/
theorem lane_eq_zero (x : BitVec 32) (b : Fin 4) : x &&& BitVec.ofNat 32 (255 * 2 ^ (8 * b.val)) = 0#32 ↔ ∀ p : Fin 8, x.getLsbD (8 * b.val + p.val) = false := by
  have key : ∀ (b : Fin 4) (q : Fin 32), (BitVec.ofNat 32 (255 * 2 ^ (8 * b.val))).getLsbD q.val = decide (q.val / 8 = b.val) := by decide +kernel
  constructor
  · intro h p
    have := congrArg (fun w => w.getLsbD (8 * b.val + p.val)) h
    simp only [BitVec.getLsbD_and, BitVec.getLsbD_zero] at this
    rw [key b ⟨8 * b.val + p.val, by omega⟩] at this
    have hb : (8 * b.val + p.val) / 8 = b.val := by omega
    simpa [hb] using this
  · intro h
    apply BitVec.eq_of_getLsbD_eq
    intro q hq
    rw [BitVec.getLsbD_and, BitVec.getLsbD_zero, key b ⟨q, hq⟩]
    by_cases hb : q / 8 = b.val
    · have := h ⟨q % 8, by omega⟩
      have e : 8 * b.val + q % 8 = q := by omega
      rw [show 8 * b.val + (⟨q % 8, by omega⟩ : Fin 8).val = q from e] at this
      simp [this]
    · simp [hb]

/-- Every fourth row of a scratch buffer, loaded. -/
theorem strLd {e : EltTy} (arg : Memref sig .tc .vmem S448x128 e) (L : List (View.Piece (Elt Ideal) S448x128 e)) (b : Fin 4) (k : Fin 112) (l : Fin 128) :
    arg.view.readCov L (strBox b.val) (ix2 k l) = View.canon L (ix2 ⟨4 * k.val + b.val, by omega⟩ l) := by
  rw [View.readCov_eq_canon']
  refine congrArg (View.canon L) ((str2 (n0 := 448) (n1 := 128) (str_ok b.val) k l (by omega) (by omega)).trans ?_)
  exact congrArg₂ ix2 (Fin.ext (by show b.val % 4 + 4 * k.val = 4 * k.val + b.val; omega)) (Fin.ext (Nat.zero_add _))

/-- Whether any weight of a block row is active, by the mask words. -/
theorem any_eq_zero (k : Fin 112) (l : Fin 128) (b : Fin 4) :
    (k0_pay5811 (F := Ideal) (arg12.view.readCov (kernelRun0_A.sl.HS1_4 c arg5 harg5 x4) (strBox 0)) (arg12.view.readCov (kernelRun0_A.sl.HS1_4 c arg5 harg5 x4) (strBox 1))
        (arg12.view.readCov (kernelRun0_A.sl.HS1_4 c arg5 harg5 x4) (strBox 2)) (arg12.view.readCov (kernelRun0_A.sl.HS1_4 c arg5 harg5 x4) (strBox 3)) (ix2 k l))
        &&& BitVec.ofNat 32 (255 * 2 ^ (8 * b.val)) = 0#32
      ↔ ∀ (t : Fin 4) (p : Fin 8), (x4 (ix2 ⟨4 * l.val + b.val, by omega⟩ ⟨4 * k.val + t.val, by omega⟩)).getLsbD p.val = false := by
  have bit (t : Fin 4) (p : Fin 8) : (arg12.view.readCov (kernelRun0_A.sl.HS1_4 (F := Ideal) c arg5 harg5 x4) (strBox t.val) (ix2 k l) : BitVec 32).getLsbD (8 * b.val + p.val)
      = (x4 (ix2 ⟨4 * l.val + b.val, by omega⟩ ⟨4 * k.val + t.val, by omega⟩)).getLsbD p.val := by
    refine (congrArg (fun w : BitVec 32 => w.getLsbD (8 * b.val + p.val)) (strLd arg12 _ t k l)).trans ?_
    rw [HS1_eq]
    refine (mw_canon arg5 harg5 x4 _ l ⟨8 * b.val + p.val, by omega⟩).trans ?_
    have h1 : (8 * b.val + p.val) / 8 = b.val := by omega
    have h2 : (8 * b.val + p.val) % 8 = p.val := by omega
    simp only [h1, h2]
  rw [lane_eq_zero]
  have ors (w0 w1 w2 w3 : BitVec 32) (n : ℕ) : (((w0 ||| w1) ||| w2) ||| w3).getLsbD n = false ↔ ((w0.getLsbD n = false ∧ w1.getLsbD n = false) ∧ w2.getLsbD n = false) ∧ w3.getLsbD n = false := by
    simp only [BitVec.getLsbD_or, Bool.or_eq_false_iff]
  constructor
  · intro h t p
    have := (ors _ _ _ _ _).mp (h p)
    rw [← bit t p]
    fin_cases t
    · exact this.1.1.1
    · exact this.1.1.2
    · exact this.1.2
    · exact this.2
  · intro h p
    exact (ors _ _ _ _ _).mpr ⟨⟨⟨(bit 0 p).trans (h 0 p), (bit 1 p).trans (h 1 p)⟩, (bit 2 p).trans (h 2 p)⟩, (bit 3 p).trans (h 3 p)⟩

theorem scLd_apply (arg6 : Memref sig .tc .vmem S1x4x128 .f32) (harg6 : arg6.IsWhole) (x5 : Vec Ideal S1x4x128 .f32) (b : Fin 4) (l : Fin 128) :
    scLd arg6 harg6 x5 b.val (ix3 0 0 l) = x5 (ix3 0 b l) := by
  unfold scLd
  refine (harg6.readAt_unread x5 _ _).trans (congrArg x5 ((idx3 (n0 := 1) (n1 := 4) (n2 := 128) (sc_ok b.val) (0 : Fin 1) (0 : Fin 1) l (by simp)
    (show b.val % 4 + 0 < 4 by omega) (by omega)).trans ?_))
  exact congrArg₂ (fun y z => ix3 (0 : Fin 1) y z) (Fin.ext (show b.val % 4 + 0 = b.val by omega)) (Fin.ext (Nat.zero_add _))

/-- A whole-block store leaves its value. -/
theorem whole_canon (w : Vec Ideal S16x112 .f32) (r : Fin 16) (k : Fin 112) :
    View.canon (Val := Elt Ideal) (e := .f32) [⟨Rect.unit (s := S16x112) ![0, 0] S16x112.size inb_S16x112_S16x112_0_0, w⟩] (ix2 r k) = w (ix2 r k) := by
  have e : (ix2 r k : S16x112.Idx) = (Rect.unit (s := S16x112) ![0, 0] S16x112.size inb_S16x112_S16x112_0_0).emb (ix2 r k) :=
    ((idx2 (n0 := 16) (n1 := 112) inb_S16x112_S16x112_0_0 r k (by omega) (by omega)).trans
      (congrArg₂ ix2 (Fin.ext (Nat.zero_add _)) (Fin.ext (Nat.zero_add _)))).symm
  exact (congrArg (View.canon _) e).trans (View.canon_cons_emb ..)

variable (i : grid0.Coords) (arg1 : Memref sig .tc .vmem S3584x1536 .fp8e4m3) (harg1 : arg1.IsWhole) (arg2 : Memref sig .tc .vmem S1x1536 .f32) (harg2 : arg2.IsWhole)
  (arg3 : Memref sig .tc .vmem S1536x512 .fp8e5m2) (harg3 : arg3.IsWhole) (arg6 : Memref sig .tc .vmem S1x4x128 .f32) (harg6 : arg6.IsWhole) (arg7 : Memref sig .tc .vmem S16x112 .f32) (harg7 : arg7.IsWhole)
  (arg8 : Memref sig .tc .vmem S512x112 .f32) (harg8 : arg8.IsWhole) (arg9 : Memref sig .tc .vmem S16x112 .f32) (harg9 : arg9.IsWhole)
  (arg10 : Memref sig .tc .vmem S16x112 .f32) (harg10 : arg10.IsWhole) (arg11 : Memref sig .tc .vmem S4x448x128 .i32) (harg11 : arg11.IsWhole) (harg12 : arg12.IsWhole)
  (arg13 : Memref sig .tc .vmem S4x112x128 .f32) (harg13 : arg13.IsWhole) (arg14 : Memref sig .tc .vmem S4x112x128 .f32) (harg14 : arg14.IsWhole)
  (arg15 : Memref sig .tc .vmem S448x128 .f32) (harg15 : arg15.IsWhole) (arg16 : Memref sig .tc .vmem S448x128 .f32) (harg16 : arg16.IsWhole)
  (x0 : Vec Ideal S3584x1536 .fp8e4m3) (x1 : Vec Ideal S1x1536 .f32) (x2 : Vec Ideal S1536x512 .fp8e5m2) (x5 : Vec Ideal S1x4x128 .f32)

/-- A step's block of sums: at block row `r` and block column `k`, the sum of the kept weights' magnitudes, row by row times the row's scale. -/
theorem out9_apply (r : Fin 16) (k : Fin 112) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix2 r k)
      = ∑ i : Fin 8, ∑ b : Fin 4, (∑ p : Fin 8, ∑ t : Fin 4, kB x3 x4 0#8 ⟨4 * (8 * r.val + i.val) + b.val, by omega⟩ k t p) * x5 (ix3 0 b ⟨8 * r.val + i.val, by omega⟩) := by
  unfold out0_A_9
  rw [View.read_writes_junk_eq_canon, out9_eq, HS4_eq]
  refine (whole_canon _ r k).trans ((dsumOut_apply _ _ r k).trans (Finset.sum_congr rfl fun i _ => Finset.sum_congr rfl fun b _ => ?_))
  exact congrArg₂ (· * ·) ((strLd arg15 _ b k _).trans (ws_canon c arg4 harg4 arg5 harg5 arg12 x3 x4 k b _)) (scLd_apply arg6 harg6 x5 b _)

/-- The least scaled magnitude of the kept weights of a block row, one row of four and of eight after another; a row without an active weight counts as infinity. -/
def minB (x3 : Vec Ideal S512x3584 .i8) (x4 : Vec Ideal S512x448 .i8) (x5 : Vec Ideal S1x4x128 .f32) (r : Fin 16) (k : Fin 112) : EReal :=
  Finset.univ.inf (α := EReal) fun i : Fin 8 => Finset.univ.inf (α := EReal) fun b : Fin 4 =>
    if ∀ (t : Fin 4) (p : Fin 8), (x4 (ix2 ⟨4 * (8 * r.val + i.val) + b.val, by omega⟩ ⟨4 * k.val + t.val, by omega⟩)).getLsbD p.val = false then ⊤
    else (Finset.univ.inf (α := EReal) fun p : Fin 8 => Finset.univ.inf (α := EReal) fun t : Fin 4 => kB x3 x4 126#8 ⟨4 * (8 * r.val + i.val) + b.val, by omega⟩ k t p) * x5 (ix3 0 b ⟨8 * r.val + i.val, by omega⟩)

/-- A step's block of minima: zero where no weight of the block is active. -/
theorem out8_apply (r : Fin 16) (k : Fin 112) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix2 r k)
      = if minB x3 x4 x5 r k = ⊤ then 0 else minB x3 x4 x5 r k := by
  unfold out0_A_8
  rw [View.read_writes_junk_eq_canon, out8_eq, HS5_eq]
  refine (whole_canon _ r k).trans ((dminOut_apply _ _ _ r k).trans ?_)
  have e : minRows (k0_pay5811 (F := Ideal) (arg12.view.readCov (kernelRun0_A.sl.HS1_4 c arg5 harg5 x4) (strBox 0)) (arg12.view.readCov (kernelRun0_A.sl.HS1_4 c arg5 harg5 x4) (strBox 1))
        (arg12.view.readCov (kernelRun0_A.sl.HS1_4 c arg5 harg5 x4) (strBox 2)) (arg12.view.readCov (kernelRun0_A.sl.HS1_4 c arg5 harg5 x4) (strBox 3)))
      (fun b => arg16.view.readCov (mPieces c arg4 harg4 arg5 harg5 arg12 x3 x4) (strBox b)) (scLd arg6 harg6 x5) r k = minB x3 x4 x5 r k := by
    unfold minRows minB
    refine Finset.inf_congr (α := EReal) rfl fun i _ => Finset.inf_congr (α := EReal) rfl fun b _ => ?_
    refine if_congr (any_eq_zero c arg5 harg5 arg12 x4 k _ b) rfl ?_
    exact congrArg₂ (· * ·) ((strLd arg16 _ b k _).trans (wm_canon c arg4 harg4 arg5 harg5 arg12 x3 x4 k b _)) (scLd_apply arg6 harg6 x5 b _)
  rw [e]

end
end Cert.KernelIdeal.Pay
-- ==== Proof.Algebra.lean ====
/- The drop scores regrouped: a block row by rows of four and of eight, a row's weights byte by byte. -/
module
public import proofs.«01_k».proof.Proof.Spec
@[expose] public section
noncomputable section
namespace Rigl
open Idealize.ShloMosaic

theorem codes : ∀ b : Fin 256, ((BitVec.ofNat 8 b.val &&& 127#8).extractLsb' 7 1 == 1#1) = false
    ∧ (BitVec.ofNat 8 b.val &&& 127#8).extractLsb' 3 4 = (BitVec.ofNat 8 b.val).extractLsb' 3 4
    ∧ (BitVec.ofNat 8 b.val &&& 127#8).extractLsb' 0 3 = (BitVec.ofNat 8 b.val).extractLsb' 0 3
    ∧ (BitVec.ofNat 8 b.val &&& 127#8 ≠ 127#8 → ¬ (((BitVec.ofNat 8 b.val).extractLsb' 3 4).toNat = 15 ∧ ((BitVec.ofNat 8 b.val).extractLsb' 0 3).toNat = 7)) := by
  decide +kernel

theorem codes' (b : BitVec 8) : ((b &&& 127#8).extractLsb' 7 1 == 1#1) = false ∧ (b &&& 127#8).extractLsb' 3 4 = b.extractLsb' 3 4
    ∧ (b &&& 127#8).extractLsb' 0 3 = b.extractLsb' 0 3 ∧ (b &&& 127#8 ≠ 127#8 → ¬ ((b.extractLsb' 3 4).toNat = 15 ∧ (b.extractLsb' 0 3).toNat = 7)) := by
  have := codes ⟨b.toNat, b.isLt⟩
  simpa only [BitVec.ofNat_toNat, BitVec.setWidth_eq] using this

/-- The magnitude of a number with exponent field `ex` and fraction field `fr`. -/
def magOf (ex fr : ℕ) : ℝ := if ex = 0 then fr * (2 : ℝ) ^ (-9 : ℤ) else (8 + fr : ℕ) * (2 : ℝ) ^ ((ex : ℤ) - 10)

theorem magOf_nonneg (ex fr : ℕ) : 0 ≤ magOf ex fr := by
  unfold magOf; split <;> positivity

theorem magOf_le (ex fr : ℕ) (he : ex < 16) (hf : fr < 8) (h : ¬ (ex = 15 ∧ fr = 7)) : magOf ex fr ≤ 448 := by
  have hfr : (fr : ℝ) ≤ 7 := by exact_mod_cast (by omega : fr ≤ 7)
  unfold magOf
  split
  · norm_num; linarith
  · by_cases h15 : ex = 15
    · have : (fr : ℝ) ≤ 6 := by exact_mod_cast (by omega : fr ≤ 6)
      subst h15; push_cast; norm_num; linarith
    · have h2 : (2 : ℝ) ^ ((ex : ℤ) - 10) ≤ 2 ^ (4 : ℤ) := zpow_le_zpow_right₀ (by norm_num) (by omega)
      have h3 : (0 : ℝ) ≤ 2 ^ ((ex : ℤ) - 10) := by positivity
      push_cast
      calc (8 + (fr : ℝ)) * 2 ^ ((ex : ℤ) - 10) ≤ 15 * 2 ^ (4 : ℤ) := mul_le_mul (by linarith) h2 h3 (by norm_num)
        _ ≤ 448 := by norm_num

theorem e4m3fn_eq (b : BitVec 8) (h : b &&& 127#8 ≠ 127#8) :
    Ideal.e4m3fn b = (((if b.extractLsb' 7 1 == 1#1 then -1 else 1) * magOf (b.extractLsb' 3 4).toNat (b.extractLsb' 0 3).toNat : ℝ) : EReal) := by
  unfold Ideal.e4m3fn magOf
  simp only [if_neg ((codes' b).2.2.2 h)]
  split
  · rw [mul_assoc]
  · rw [mul_assoc]

theorem e4m3fn_and (b : BitVec 8) (h : b &&& 127#8 ≠ 127#8) :
    Ideal.e4m3fn (b &&& 127#8) = ((magOf (b.extractLsb' 3 4).toNat (b.extractLsb' 0 3).toNat : ℝ) : EReal) := by
  rw [e4m3fn_eq _ (by rwa [BitVec.and_assoc, BitVec.and_self]), (codes' b).1, (codes' b).2.1, (codes' b).2.2.1]
  simp

/-- Clearing the sign bit of a number is taking its magnitude. -/
theorem mag_e4m3fn (b : BitVec 8) (h : b &&& 127#8 ≠ 127#8) : Ideal.e4m3fn (b &&& 127#8) = mag (Ideal.e4m3fn b) := by
  rw [e4m3fn_and b h, e4m3fn_eq b h]
  have h0 := magOf_nonneg (b.extractLsb' 3 4).toNat (b.extractLsb' 0 3).toNat
  unfold mag
  rw [← EReal.coe_neg]
  split
  · rw [max_eq_right (EReal.coe_le_coe_iff.mpr (by linarith))]; congr 1; ring
  · rw [max_eq_left (EReal.coe_le_coe_iff.mpr (by linarith))]; congr 1; ring

theorem mag_nonneg (b : BitVec 8) (h : b &&& 127#8 ≠ 127#8) : 0 ≤ mag (Ideal.e4m3fn b) := by
  rw [← mag_e4m3fn b h, e4m3fn_and b h]
  exact_mod_cast magOf_nonneg _ _

theorem e4m3fn_top : Ideal.e4m3fn 126#8 = ((448 : ℝ) : EReal) := by
  have h := e4m3fn_and 126#8 (by decide)
  rw [show (126#8 &&& 127#8) = 126#8 by decide, show (BitVec.extractLsb' 3 4 126#8).toNat = 15 by decide, show (BitVec.extractLsb' 0 3 126#8).toNat = 6 by decide] at h
  rw [h]; congr 1; unfold magOf; norm_num

theorem e4m3fn_zero : Ideal.e4m3fn 0#8 = 0 := by
  have h := e4m3fn_and 0#8 (by decide)
  rw [show (0#8 &&& 127#8) = 0#8 by decide, show (BitVec.extractLsb' 3 4 0#8).toNat = 0 by decide, show (BitVec.extractLsb' 0 3 0#8).toNat = 0 by decide] at h
  rw [h]; simp [magOf]

theorem mag_le_top (b : BitVec 8) (h : b &&& 127#8 ≠ 127#8) : mag (Ideal.e4m3fn b) ≤ Ideal.e4m3fn 126#8 := by
  rw [← mag_e4m3fn b h, e4m3fn_and b h, e4m3fn_top]
  exact_mod_cast magOf_le _ _ (BitVec.isLt _) (BitVec.isLt _) ((codes' b).2.2.2 h)

/-- A sum of nonnegative terms, times a factor. -/
theorem sum_mul_of_nonneg {ι : Type} (s : Finset ι) (f : ι → EReal) (a : EReal) (h : ∀ i ∈ s, 0 ≤ f i) : (∑ i ∈ s, f i) * a = ∑ i ∈ s, f i * a := by
  classical
  induction s using Finset.induction_on with
  | empty => simp
  | insert i s hi ih =>
    rw [Finset.sum_insert hi, Finset.sum_insert hi, EReal.right_distrib_of_nonneg (h i (by simp)) (Finset.sum_nonneg fun j hj => h j (by simp [hj])),
      ih fun j hj => h j (by simp [hj])]

/-- The 32 columns of a block as bits of four bytes. -/
theorem sum_bytes (g : Fin 32 → EReal) : ∑ p : Fin 8, ∑ t : Fin 4, g ⟨8 * t.val + p.val, by omega⟩ = ∑ j, g j := by
  rw [Finset.sum_comm, ← Fintype.sum_prod_type' (f := fun (t : Fin 4) (p : Fin 8) => g ⟨8 * t.val + p.val, by omega⟩)]
  refine Fintype.sum_equiv (finProdFinEquiv (m := 4) (n := 8)) _ _ fun x => congrArg g (Fin.ext ?_)
  show 8 * x.1.val + x.2.val = x.2.val + 8 * x.1.val; omega

/-- The 32 rows of a block as eight groups of four. -/
theorem sum_fours (g : Fin 32 → EReal) : ∑ i : Fin 8, ∑ b : Fin 4, g ⟨4 * i.val + b.val, by omega⟩ = ∑ j, g j := by
  rw [← Fintype.sum_prod_type' (f := fun (i : Fin 8) (b : Fin 4) => g ⟨4 * i.val + b.val, by omega⟩)]
  refine Fintype.sum_equiv (finProdFinEquiv (m := 8) (n := 4)) _ _ fun x => congrArg g (Fin.ext ?_)
  show 4 * x.1.val + x.2.val = x.2.val + 4 * x.1.val; omega

theorem inf_bytes (g : Fin 32 → EReal) : (Finset.univ.inf (α := EReal) fun p : Fin 8 => Finset.univ.inf (α := EReal) fun t : Fin 4 => g ⟨8 * t.val + p.val, by omega⟩) = Finset.univ.inf (α := EReal) g := by
  refine le_antisymm (Finset.le_inf fun j _ => ?_) (Finset.le_inf fun p _ => Finset.le_inf fun t _ => Finset.inf_le (Finset.mem_univ _))
  refine (Finset.inf_le (Finset.mem_univ (⟨j.val % 8, by omega⟩ : Fin 8))).trans ((Finset.inf_le (Finset.mem_univ (⟨j.val / 8, by omega⟩ : Fin 4))).trans (le_of_eq (congrArg g (Fin.ext ?_))))
  show 8 * (j.val / 8) + j.val % 8 = j.val; omega

theorem inf_fours (g : Fin 32 → EReal) : (Finset.univ.inf (α := EReal) fun i : Fin 8 => Finset.univ.inf (α := EReal) fun b : Fin 4 => g ⟨4 * i.val + b.val, by omega⟩) = Finset.univ.inf (α := EReal) g := by
  refine le_antisymm (Finset.le_inf fun j _ => ?_) (Finset.le_inf fun p _ => Finset.le_inf fun t _ => Finset.inf_le (Finset.mem_univ _))
  refine (Finset.inf_le (Finset.mem_univ (⟨j.val / 4, by omega⟩ : Fin 8))).trans ((Finset.inf_le (Finset.mem_univ (⟨j.val % 4, by omega⟩ : Fin 4))).trans (le_of_eq (congrArg g (Fin.ext ?_))))
  show 4 * (j.val / 4) + j.val % 4 = j.val; omega

/-- Scaling the sum of a row's kept magnitudes is summing the scaled ones. -/
theorem row_sum (w : Fin 32 → BitVec 8) (h : ∀ j, w j &&& 127#8 ≠ 127#8) (a : Fin 32 → Bool) (s : EReal) :
    (∑ p : Fin 8, ∑ t : Fin 4, Ideal.e4m3fn (if a ⟨8 * t.val + p.val, by omega⟩ then w ⟨8 * t.val + p.val, by omega⟩ &&& 127#8 else 0#8)) * s
      = ∑ j, if a j then mag (Ideal.e4m3fn (w j)) * s else 0 := by
  have e (j : Fin 32) : Ideal.e4m3fn (if a j then w j &&& 127#8 else 0#8) = if a j then mag (Ideal.e4m3fn (w j)) else 0 := by
    split
    · exact mag_e4m3fn _ (h j)
    · exact e4m3fn_zero
  rw [sum_bytes fun j => Ideal.e4m3fn (if a j then w j &&& 127#8 else 0#8), sum_mul_of_nonneg]
  · refine Finset.sum_congr rfl fun j _ => ?_
    rw [e j]; split
    · rfl
    · exact zero_mul s
  · intro j _
    rw [e j]; split
    · exact mag_nonneg _ (h j)
    · exact le_rfl

/-- Scaling the least of a row's kept magnitudes, the others counted as the greatest number there is, is taking the least scaled one. -/
theorem row_inf (w : Fin 32 → BitVec 8) (h : ∀ j, w j &&& 127#8 ≠ 127#8) (a : Fin 32 → Bool) (s : EReal) (hs : 0 ≤ s) :
    (if ∀ (t : Fin 4) (p : Fin 8), a ⟨8 * t.val + p.val, by omega⟩ = false then ⊤
      else (Finset.univ.inf (α := EReal) fun p : Fin 8 => Finset.univ.inf (α := EReal) fun t : Fin 4 =>
        Ideal.e4m3fn (if a ⟨8 * t.val + p.val, by omega⟩ then w ⟨8 * t.val + p.val, by omega⟩ &&& 127#8 else 126#8)) * s)
      = Finset.univ.inf (α := EReal) fun j => if a j then mag (Ideal.e4m3fn (w j)) * s else ⊤ := by
  have hall : (∀ (t : Fin 4) (p : Fin 8), a ⟨8 * t.val + p.val, by omega⟩ = false) ↔ ∀ j, a j = false := by
    refine ⟨fun H j => ?_, fun H t p => H _⟩
    have := H ⟨j.val / 8, by omega⟩ ⟨j.val % 8, by omega⟩
    rwa [show (⟨8 * (⟨j.val / 8, by omega⟩ : Fin 4).val + (⟨j.val % 8, by omega⟩ : Fin 8).val, by show 8 * (j.val / 8) + j.val % 8 < 32; omega⟩ : Fin 32) = j from
      Fin.ext (by show 8 * (j.val / 8) + j.val % 8 = j.val; omega)] at this
  rw [inf_bytes fun j => Ideal.e4m3fn (if a j then w j &&& 127#8 else 126#8)]
  by_cases H : ∀ j, a j = false
  · rw [if_pos (hall.mpr H)]
    refine (top_le_iff.mp (Finset.le_inf fun j _ => ?_)).symm
    rw [H j]; exact le_rfl
  · rw [if_neg fun x => H (hall.mp x)]
    obtain ⟨j0, hj0, hmin⟩ := Finset.exists_min_image (Finset.univ.filter fun j => a j = true) (fun j => mag (Ideal.e4m3fn (w j)))
      (by push Not at H; obtain ⟨j, hj⟩ := H; exact ⟨j, by simpa using hj⟩)
    have ha : a j0 = true := by simpa using hj0
    have e1 : (Finset.univ.inf (α := EReal) fun j => Ideal.e4m3fn (if a j then w j &&& 127#8 else 126#8)) = mag (Ideal.e4m3fn (w j0)) := by
      refine le_antisymm ((Finset.inf_le (Finset.mem_univ j0)).trans (le_of_eq ?_)) (Finset.le_inf fun j _ => ?_)
      · rw [ha]; exact mag_e4m3fn _ (h j0)
      · by_cases hj : a j = true
        · rw [hj]; exact (hmin j (by simpa using hj)).trans (le_of_eq (mag_e4m3fn _ (h j)).symm)
        · rw [if_neg hj]; exact mag_le_top _ (h j0)
    rw [e1]
    refine le_antisymm (Finset.le_inf fun j _ => ?_) ((Finset.inf_le (Finset.mem_univ j0)).trans (le_of_eq ?_))
    · by_cases hj : a j = true
      · rw [if_pos hj]; exact mul_le_mul_of_nonneg_right (hmin j (by simpa using hj)) hs
      · rw [if_neg hj]; exact le_top
    · rw [ha]; rfl
end Rigl
-- ==== Proof.KDrop.lean ====
/- The arrays the kernel leaves of kept weights' minima and sums, index by index, in its arguments. -/
module
public import proofs.«01_k».proof.Proof.KArr
public import proofs.«01_k».proof.Proof.Drop
public import proofs.«01_k».proof.Proof.Algebra
@[expose] public section
noncomputable section
namespace Cert.KernelIdeal.Pay
open Cert.KernelIdeal Cert.KernelIdeal.Gen Idealize.ShloMosaic Idealize.ShloMosaic.TcCoe Idealize.SL.Sem
open Cert.KernelIdeal.Facts
variable (m : (ℓ : Loc nD τ sig) → Buf (Elt Ideal) ℓ) (c : Dev nD)

theorem index8 : ∀ t : Fin cfg0.N, win0_8.index t 0 = t.val ∧ win0_8.index t 1 = 0 := (by decide +kernel : ∀ t : Fin grid0.N, win0_8.index t 0 = t.val ∧ win0_8.index t 1 = 0)
theorem index9 : ∀ t : Fin cfg0.N, win0_9.index t 0 = t.val ∧ win0_9.index t 1 = 0 := (by decide +kernel : ∀ t : Fin grid0.N, win0_9.index t 0 = t.val ∧ win0_9.index t 1 = 0)

/-- Row 4i + b of a block row of a step. -/
theorem row_fours (t : Fin cfg0.N) (r : Fin 16) (i : Fin 8) (b : Fin 4) :
    row t ⟨4 * (8 * r.val + i.val) + b.val, by omega⟩ = ⟨32 * (blockRow t r).val + (⟨4 * i.val + b.val, by omega⟩ : Fin 32).val, by have := (blockRow t r).isLt; show 32 * (blockRow t r).val + (4 * i.val + b.val) < 18944; omega⟩ :=
  Fin.ext (by show 512 * t.val + (4 * (8 * r.val + i.val) + b.val) = 32 * (16 * t.val + r.val) + (4 * i.val + b.val); omega)

/-- Whether a weight of a step's block is active. -/
theorem act_eq (t : Fin cfg0.N) (f : Fin 512) (k : Fin 112) (b : Fin 4) (p : Fin 8) :
    BitVec.getLsbD (w := 8) (iblk m c 4 t (ix2 f ⟨4 * k.val + b.val, by omega⟩)) p.val
      = Rigl.active (m (c, Proc.tc.devRef main_arg6)) (row t f) k ⟨8 * b.val + p.val, by omega⟩ := by
  unfold Rigl.active
  have h1 : (8 * b.val + p.val) / 8 = b.val := by omega
  have h2 : (8 * b.val + p.val) % 8 = p.val := by omega
  simp only [h1, h2]
  exact congrArg (fun w : BitVec 8 => w.getLsbD p.val) (in4 m c t f _)

/-- A weight byte with its mask bit applied. -/
theorem kB_eq (t : Fin cfg0.N) (z : BitVec 8) (f : Fin 512) (k : Fin 112) (b : Fin 4) (p : Fin 8) :
    kB (iblk m c 3 t) (iblk m c 4 t) z f k b p = Ideal.e4m3fn (if Rigl.active (m (c, Proc.tc.devRef main_arg6)) (row t f) k ⟨8 * b.val + p.val, by omega⟩ then
      BitVec.and (n := 8) (m (c, Proc.tc.devRef main_arg4) (ix2 (row t f) ⟨32 * k.val + (⟨8 * b.val + p.val, by omega⟩ : Fin 32).val, by show 32 * k.val + (8 * b.val + p.val) < 3584; omega⟩)) 127#8 else z) := by
  unfold kB
  refine congrArg Ideal.e4m3fn (if_congr (iff_of_eq (congrArg (· = true) (act_eq m c t f k b p))) (congrArg (fun w : BitVec 8 => w &&& 127#8) ((in3 m c t f _).trans ?_)) rfl)
  exact congrArg (m (c, Proc.tc.devRef main_arg4)) (congrArg (ix2 _) (Fin.ext (by show 32 * k.val + 8 * b.val + p.val = 32 * k.val + (8 * b.val + p.val); omega)))

variable (h : ∀ (f : Fin 18944) (d : Fin 3584), BitVec.and (n := 8) (m (c, Proc.tc.devRef main_arg4) (ix2 f d)) 127#8 ≠ 127#8)
include h

/-- Result 4 of the kernel. -/
theorem arr9 : (dats m 0 c).arrAt 9 cfg0.N = fun y => Rigl.dropSum (m (c, Proc.tc.devRef main_arg4)) (m (c, Proc.tc.devRef main_arg5)) (m (c, Proc.tc.devRef main_arg6)) (y 0) (y 1) := by
  refine (dats m 0 c).arrAt_eq_of_covers 9 _ (by decide +kernel) fun t hf y => ?_
  blk_simp
  rw [after0_9]
  simp only [outsAt0]
  obtain ⟨r, k, rfl⟩ : ∃ (r : Fin 16) (b : Fin 112), y = ix2 r b := ⟨y 0, y 1, eq_ix2 y⟩
  have e0 : ((View.whole main_v8_3).slice (win0_9.rect t)).emb (ix2 r k) 0 = blockRow t r := Fin.ext (by
    show win0_9.index t 0 * 16 + 1 * r.val = 16 * t.val + r.val
    rw [(index9 t).1]; omega)
  have e1 : ((View.whole main_v8_3).slice (win0_9.rect t)).emb (ix2 r k) 1 = k := Fin.ext (by
    show win0_9.index t 1 * 112 + 1 * k.val = k.val
    rw [(index9 t).2]; omega)
  refine (out9_apply ..).trans (Eq.trans ?_ (congrArg₂ (Rigl.dropSum _ _ _) e0 e1).symm)
  unfold Rigl.dropSum
  refine Eq.trans (Finset.sum_congr rfl fun i _ => Finset.sum_congr rfl fun b _ => ?_) (Rigl.sum_fours _)
  have e : (∑ p : Fin 8, ∑ t' : Fin 4, kB (iblk m c 3 t) (iblk m c 4 t) 0#8 ⟨4 * (8 * r.val + i.val) + b.val, by omega⟩ k t' p) = _ :=
    Finset.sum_congr rfl fun p _ => Finset.sum_congr rfl fun t' _ => kB_eq m c t 0#8 _ k t' p
  refine (congrArg₂ (fun x y : EReal => x * y) e (in5 m c t b _)).trans ?_
  refine (Rigl.row_sum (fun j => m (c, Proc.tc.devRef main_arg4) (ix2 (row t ⟨4 * (8 * r.val + i.val) + b.val, by omega⟩) ⟨32 * k.val + j.val, by omega⟩)) (fun j => h _ _)
    (Rigl.active (m (c, Proc.tc.devRef main_arg6)) (row t ⟨4 * (8 * r.val + i.val) + b.val, by omega⟩) k) _).trans ?_
  rw [row_fours]
  rfl

/-- Result 3 of the kernel. -/
theorem arr8 (hs : ∀ f : Fin 18944, (0 : EReal) ≤ m (c, Proc.tc.devRef main_arg5) (ix1 f)) :
    (dats m 0 c).arrAt 8 cfg0.N = fun y => Rigl.dropMin (m (c, Proc.tc.devRef main_arg4)) (m (c, Proc.tc.devRef main_arg5)) (m (c, Proc.tc.devRef main_arg6)) (y 0) (y 1) := by
  refine (dats m 0 c).arrAt_eq_of_covers 8 _ (by decide +kernel) fun t hf y => ?_
  blk_simp
  rw [after0_8]
  simp only [outsAt0]
  obtain ⟨r, k, rfl⟩ : ∃ (r : Fin 16) (b : Fin 112), y = ix2 r b := ⟨y 0, y 1, eq_ix2 y⟩
  have e0 : ((View.whole main_v8_2).slice (win0_8.rect t)).emb (ix2 r k) 0 = blockRow t r := Fin.ext (by
    show win0_8.index t 0 * 16 + 1 * r.val = 16 * t.val + r.val
    rw [(index8 t).1]; omega)
  have e1 : ((View.whole main_v8_2).slice (win0_8.rect t)).emb (ix2 r k) 1 = k := Fin.ext (by
    show win0_8.index t 1 * 112 + 1 * k.val = k.val
    rw [(index8 t).2]; omega)
  refine (out8_apply ..).trans (Eq.trans ?_ (congrArg₂ (Rigl.dropMin _ _ _) e0 e1).symm)
  have e : minB (iblk m c 3 t) (iblk m c 4 t) (iblk m c 5 t) r k
      = Rigl.dropInf (m (c, Proc.tc.devRef main_arg4)) (m (c, Proc.tc.devRef main_arg5)) (m (c, Proc.tc.devRef main_arg6)) (blockRow t r) k := by
    unfold minB Rigl.dropInf
    refine Eq.trans (Finset.inf_congr (α := EReal) rfl fun i _ => Finset.inf_congr (α := EReal) rfl fun b _ => ?_) (Rigl.inf_fours _)
    have e : (Finset.univ.inf (α := EReal) fun p : Fin 8 => Finset.univ.inf (α := EReal) fun t' : Fin 4 => kB (iblk m c 3 t) (iblk m c 4 t) 126#8 ⟨4 * (8 * r.val + i.val) + b.val, by omega⟩ k t' p) = _ :=
      Finset.inf_congr (α := EReal) rfl fun p _ => Finset.inf_congr (α := EReal) rfl fun t' _ => kB_eq m c t 126#8 _ k t' p
    refine (if_congr (forall_congr' fun t' => forall_congr' fun p => iff_of_eq (congrArg (· = false) (act_eq m c t _ k t' p))) rfl
      (congrArg₂ (fun x y : EReal => x * y) e (in5 m c t b _))).trans ?_
    refine (Rigl.row_inf (fun j => m (c, Proc.tc.devRef main_arg4) (ix2 (row t ⟨4 * (8 * r.val + i.val) + b.val, by omega⟩) ⟨32 * k.val + j.val, by omega⟩)) (fun j => h _ _)
      (Rigl.active (m (c, Proc.tc.devRef main_arg6)) (row t ⟨4 * (8 * r.val + i.val) + b.val, by omega⟩) k) _ (hs _)).trans ?_
    rw [row_fours]
    rfl
  unfold Rigl.dropMin
  rw [e]
end Cert.KernelIdeal.Pay
-- ==== Proof.RefPay.lean ====
/- The reference's reductions over the rows and columns of a block, as sums, maxima and minima. -/
module
public import proofs.«01_k».proof.Proof.Gen.ReferenceIdeal.Value
public import proofs.«01_k».proof.Proof.Spec
public import Idealize.ShloMosaic.Lib.Pointwise
public import Idealize.ShloMosaic.Lib.Claim
public import Idealize.ShloMosaic.Lib.Pipeline.ValueKit
@[expose] public section
noncomputable section
namespace Cert.ReferenceIdeal.Val
open Cert.ReferenceIdeal Cert.ReferenceIdeal.Gen Idealize.ShloMosaic Idealize.ShloMosaic.TcCoe Idealize.SL.Sem
open Cert.ReferenceIdeal.Facts
/-- The bits of f32 minus infinity. -/
theorem negInf : Ideal.ofBits .f32 4286578688#32 = ⊥ := by simp [Ideal.ofBits, Ideal.ieee]
/-- The bits of f32 infinity. -/
theorem posInf : Ideal.ofBits .f32 2139095040#32 = ⊤ := by simp [Ideal.ofBits, Ideal.ieee]

theorem fold_max {n : ℕ} (f : Fin n → EReal) : Finset.fold max ⊥ f Finset.univ = Finset.univ.sup f := rfl
theorem fold_min {n : ℕ} (f : Fin n → EReal) : Finset.fold min ⊤ f Finset.univ = Finset.univ.inf f := rfl

/-- The reference's block maxima: the greatest over 32 rows of the greatest over 32 columns. -/
theorem pay7_apply (v0 : Vec Ideal S1536x3584 .fp8e4m3) (v3 : Vec Ideal S1536x1 .f32) (v8 : Vec Ideal S1536x18944 .fp8e5m2) (v11 : Vec Ideal S1536x1 .f32) (v20 : Vec Ideal S18944x112x32 .i32) (r : Fin 592) (b : Fin 112) :
    k0_pay7 v0 v3 v8 v11 v20 (ix2 r b) = Finset.univ.sup (α := EReal) fun i : Fin 32 => Finset.univ.sup (α := EReal) fun j : Fin 32 => k0_pay5 v0 v3 v8 v11 v20 (ix3 ⟨32 * r.val + i.val, by omega⟩ b j) := by
  unfold k0_pay7
  simp [pointwise]
  rw [negInf]
  simp only [Nat.mul_comm r.val 32]
  exact (fold_max _).trans (Finset.sup_congr (α := EReal) rfl fun i _ => fold_max _)

/-- The reference's row sums over 32 columns. -/
theorem pay6_apply (v0 : Vec Ideal S1536x3584 .fp8e4m3) (v3 : Vec Ideal S1536x1 .f32) (v8 : Vec Ideal S1536x18944 .fp8e5m2) (v11 : Vec Ideal S1536x1 .f32) (v20 : Vec Ideal S18944x112x32 .i32) (f : Fin 18944) (b : Fin 112) :
    k0_pay6 v0 v3 v8 v11 v20 (ix2 f b) = ∑ j : Fin 32, k0_pay5 v0 v3 v8 v11 v20 (ix3 f b j) := by
  unfold k0_pay6
  simp [pointwise]

/-- The reference's block sums of active weights. -/
theorem pay3_apply (v23 : IVec S18944x112x32 1) (v34 : FVec Ideal S18944x3584 .f32) (v36 : Vec Ideal S18944x1 .f32) (r : Fin 592) (b : Fin 112) :
    k0_pay3 v23 v34 v36 (ix2 r b) = ∑ i : Fin 32, ∑ j : Fin 32, Scalar.select (v23 (ix3 ⟨32 * r.val + i.val, by omega⟩ b j)) (k0_pay1 v34 v36 (ix3 ⟨32 * r.val + i.val, by omega⟩ b j)) (0 : EReal) := by
  unfold k0_pay3
  simp [pointwise]
  simp only [Nat.mul_comm r.val 32]

/-- The least magnitude of a block's active weights, as the reference computes it. -/
def minV (v23 : IVec S18944x112x32 1) (v34 : FVec Ideal S18944x3584 .f32) (v36 : Vec Ideal S18944x1 .f32) (r : Fin 592) (b : Fin 112) : EReal :=
  Finset.univ.inf (α := EReal) fun i : Fin 32 => Finset.univ.inf (α := EReal) fun j : Fin 32 =>
    Scalar.select (v23 (ix3 ⟨32 * r.val + i.val, by omega⟩ b j)) (k0_pay1 v34 v36 (ix3 ⟨32 * r.val + i.val, by omega⟩ b j)) (⊤ : EReal)

/-- The reference's block minima of active weights, zero where the minimum's magnitude is infinite. -/
theorem pay2_apply (v23 : IVec S18944x112x32 1) (v34 : FVec Ideal S18944x3584 .f32) (v36 : Vec Ideal S18944x1 .f32) (r : Fin 592) (b : Fin 112) :
    k0_pay2 v23 v34 v36 (ix2 r b) = if Rigl.mag (minV v23 v34 v36 r b) = ⊤ then 0 else minV v23 v34 v36 r b := by
  unfold k0_pay2
  simp [pointwise]
  rw [posInf]
  simp only [Nat.mul_comm r.val 32]
  have e : (Finset.fold min ⊤ (fun i : Fin 32 => Finset.fold min ⊤ (fun j : Fin 32 =>
      Scalar.select (v23 (ix3 ⟨32 * r.val + i.val, by omega⟩ b j)) (k0_pay1 v34 v36 (ix3 ⟨32 * r.val + i.val, by omega⟩ b j)) (⊤ : EReal)) Finset.univ) Finset.univ : EReal) = minV v23 v34 v36 r b := by
    unfold minV
    exact (fold_min _).trans (Finset.inf_congr (α := EReal) rfl fun i _ => fold_min _)
  exact congrArg (fun v : EReal => if Rigl.mag v = ⊤ then 0 else v) e

end Cert.ReferenceIdeal.Val
-- ==== Proof.Ref.lean ====
/- The arrays the reference leaves, index by index, in its arguments. -/
module
public import proofs.«01_k».proof.Proof.Gen.ReferenceIdeal.Value
public import proofs.«01_k».proof.Proof.RefPay
public import Idealize.ShloMosaic.Lib.Pointwise
public import Idealize.ShloMosaic.Lib.Claim
public import Idealize.ShloMosaic.Lib.Pipeline.ValueKit
@[expose] public section
noncomputable section
namespace Cert.ReferenceIdeal.Val
open Cert.ReferenceIdeal Cert.ReferenceIdeal.Gen Idealize.ShloMosaic Idealize.ShloMosaic.TcCoe Idealize.SL.Sem
open Cert.ReferenceIdeal.Facts
variable (m : (ℓ : Loc nD τ sig) → Buf (Elt Ideal) ℓ) (c : Dev nD)

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 := (by decide +kernel : ∀ t : Fin grid0.N, win0_4.index t 0 = 0 ∧ win0_4.index t 1 = 0)
theorem index5 : ∀ t : Fin cfg0.N, win0_5.index t 0 = 0 ∧ win0_5.index t 1 = 0 := (by decide +kernel : ∀ t : Fin grid0.N, win0_5.index t 0 = 0 ∧ win0_5.index t 1 = 0)
theorem index6 : ∀ t : Fin cfg0.N, win0_6.index t 0 = 0 ∧ win0_6.index t 1 = 0 ∧ win0_6.index t 2 = 0 := (by decide +kernel : ∀ t : Fin grid0.N, win0_6.index t 0 = 0 ∧ win0_6.index t 1 = 0 ∧ win0_6.index t 2 = 0)

/-- An index of two coordinates is known by their values. -/
theorem ix2_zero {n0 n1 : ℕ} (y : (⟨2, ![n0, n1]⟩ : Shape).Idx) (i : Fin n0) (j : Fin n1) (h0 : (y 0).val = i.val) (h1 : (y 1).val = j.val) : y = ix2 i j :=
  (eq_ix2 y).trans (congrArg₂ ix2 (Fin.ext h0) (Fin.ext h1))

/-- An index of three coordinates is known by their values. -/
theorem ix3_zero {n0 n1 n2 : ℕ} (y : (⟨3, ![n0, n1, n2]⟩ : Shape).Idx) (i : Fin n0) (j : Fin n1) (k : Fin n2) (h0 : (y 0).val = i.val) (h1 : (y 1).val = j.val) (h2 : (y 2).val = k.val) : y = ix3 i j k :=
  (eq_ix3 y).trans (by rw [show y 0 = i from Fin.ext h0, show y 1 = j from Fin.ext h1, show y 2 = k from Fin.ext h2])

/-- The reference's blocks are its arguments reshaped: the activations' codes, -/
theorem in0 (t : Fin cfg0.N) (n : Fin 1536) (d : Fin 3584) : (iblk m c 0 t (ix2 n d) : EReal) = m (c, Proc.tc.devRef main_arg0) (ix3 (Rigl.tok n).1 (Rigl.tok n).2 d) := by
  simp only [iblk]
  blk_simp
  entry_read
  rw [ix2_zero (n0 := 1536) (n1 := 3584) (((View.whole main_v9).slice (win0_0.rect t)).emb (ix2 n d)) n d
    (by show win0_0.index t 0 * 1536 + 1 * n.val = n.val; rw [(index0 t).1]; omega) (by show win0_0.index t 1 * 3584 + 1 * d.val = d.val; rw [(index0 t).2]; omega)]
  simp [pointwise, Rigl.tok]
/-- the activations' scales, -/
theorem in1 (t : Fin cfg0.N) (n : Fin 1536) : (iblk m c 1 t (ix2 n 0) : EReal) = m (c, Proc.tc.devRef main_arg1) (ix2 (Rigl.tok n).1 (Rigl.tok n).2) := by
  simp only [iblk]
  blk_simp
  entry_read
  rw [ix2_zero (n0 := 1536) (n1 := 1) (((View.whole main_v10).slice (win0_1.rect t)).emb (ix2 n 0)) n 0
    (by show win0_1.index t 0 * 1536 + 1 * n.val = n.val; rw [(index1 t).1]; omega) (by show win0_1.index t 1 * 1 + 1 * (0 : Fin 1).val = (0 : Fin 1).val; rw [(index1 t).2]; omega)]
  simp [pointwise, Rigl.tok]
/-- the output gradients' codes, -/
theorem in2 (t : Fin cfg0.N) (n : Fin 1536) (f : Fin 18944) : (iblk m c 2 t (ix2 n f) : EReal) = m (c, Proc.tc.devRef main_arg2) (ix3 (Rigl.tok n).1 (Rigl.tok n).2 f) := by
  simp only [iblk]
  blk_simp
  entry_read
  rw [ix2_zero (n0 := 1536) (n1 := 18944) (((View.whole main_v11).slice (win0_2.rect t)).emb (ix2 n f)) n f
    (by show win0_2.index t 0 * 1536 + 1 * n.val = n.val; rw [(index2 t).1]; omega) (by show win0_2.index t 1 * 18944 + 1 * f.val = f.val; rw [(index2 t).2]; omega)]
  simp [pointwise, Rigl.tok]
/-- the output gradients' scales, -/
theorem in3 (t : Fin cfg0.N) (n : Fin 1536) : (iblk m c 3 t (ix2 n 0) : EReal) = m (c, Proc.tc.devRef main_arg3) (ix2 (Rigl.tok n).1 (Rigl.tok n).2) := by
  simp only [iblk]
  blk_simp
  entry_read
  rw [ix2_zero (n0 := 1536) (n1 := 1) (((View.whole main_v12).slice (win0_3.rect t)).emb (ix2 n 0)) n 0
    (by show win0_3.index t 0 * 1536 + 1 * n.val = n.val; rw [(index3 t).1]; omega) (by show win0_3.index t 1 * 1 + 1 * (0 : Fin 1).val = (0 : Fin 1).val; rw [(index3 t).2]; omega)]
  simp [pointwise, Rigl.tok]
/-- the weights' codes, -/
theorem in4 (t : Fin cfg0.N) (f : Fin 18944) (d : Fin 3584) : (iblk m c 4 t (ix2 f d) : BitVec 8) = m (c, Proc.tc.devRef main_arg4) (ix2 f d) := by
  simp only [iblk]
  blk_simp
  entry_read
  rw [ix2_zero (n0 := 18944) (n1 := 3584) (((View.whole main_arg4).slice (win0_4.rect t)).emb (ix2 f d)) f d
    (by show win0_4.index t 0 * 18944 + 1 * f.val = f.val; rw [(index4 t).1]; omega) (by show win0_4.index t 1 * 3584 + 1 * d.val = d.val; rw [(index4 t).2]; omega)]
/-- the weights' scales, -/
theorem in5 (t : Fin cfg0.N) (f : Fin 18944) : (iblk m c 5 t (ix2 f 0) : EReal) = m (c, Proc.tc.devRef main_arg5) (ix1 f) := by
  simp only [iblk]
  blk_simp
  entry_read
  rw [ix2_zero (n0 := 18944) (n1 := 1) (((View.whole main_v13).slice (win0_5.rect t)).emb (ix2 f 0)) f 0
    (by show win0_5.index t 0 * 18944 + 1 * f.val = f.val; rw [(index5 t).1]; omega) (by show win0_5.index t 1 * 1 + 1 * (0 : Fin 1).val = (0 : Fin 1).val; rw [(index5 t).2]; omega)]
  simp [pointwise, Rigl.tok]
/-- and the mask's bits, unpacked. -/
theorem in6 (t : Fin cfg0.N) (f : Fin 18944) (b : Fin 112) (j : Fin 32) : (iblk m c 6 t (ix3 f b j) : BitVec 32)
    = IntOp.andi (IntOp.shrsi .host (BitVec.setWidth 32 (m (c, Proc.tc.devRef main_arg6) (ix2 f ⟨4 * b.val + j.val / 8, by omega⟩) : BitVec 8)) (BitVec.ofNat 32 (j.val % 8))) 1#32 := by
  simp only [iblk]
  blk_simp
  entry_read
  rw [ix3_zero (n0 := 18944) (n1 := 112) (n2 := 32) (((View.whole main_v14).slice (win0_6.rect t)).emb (ix3 f b j)) f b j
    (by show win0_6.index t 0 * 18944 + 1 * f.val = f.val; rw [(index6 t).1]; omega) (by show win0_6.index t 1 * 112 + 1 * b.val = b.val; rw [(index6 t).2.1]; omega)
    (by show win0_6.index t 2 * 32 + 1 * j.val = j.val; rw [(index6 t).2.2]; omega)]
  simp [pointwise, Nat.mul_comm b.val 4]

theorem bit_eq : ∀ (b : Fin 256) (p : Fin 8), IntOp.cmpi .eq (IntOp.andi (IntOp.shrsi .host (BitVec.setWidth 32 (BitVec.ofNat 8 b.val)) (BitVec.ofNat 32 p.val)) 1#32) 1#32
    = BitVec.ofBool ((BitVec.ofNat 8 b.val).getLsbD p.val) := by decide +kernel

/-- The reference's test of a mask bit. -/
theorem act_eq (t : Fin cfg0.N) (f : Fin 18944) (b : Fin 112) (j : Fin 32) : k0_pay4 (F := Ideal) (iblk m c 6 t) (ix3 f b j) = BitVec.ofBool (Rigl.active (m (c, Proc.tc.devRef main_arg6)) f b j) := by
  unfold k0_pay4 Rigl.active
  simp [pointwise]
  refine (congrArg (fun w : BitVec 32 => IntOp.cmpi .eq w 1#32) (in6 m c t f b j)).trans ?_
  have := bit_eq ⟨BitVec.toNat (w := 8) (m (c, Proc.tc.devRef main_arg6) (ix2 f ⟨4 * b.val + j.val / 8, by omega⟩)), BitVec.isLt _⟩ ⟨j.val % 8, by omega⟩
  simpa only [BitVec.ofNat_toNat, BitVec.setWidth_eq] using this

theorem select_bool (b : Bool) (x y : EReal) : Scalar.select (BitVec.ofBool b) x y = if b then x else y := by cases b <;> rfl

/-- The reference's grow score of one weight. -/
theorem grow_eq (t : Fin cfg0.N) (f : Fin 18944) (b : Fin 112) (j : Fin 32) :
    k0_pay5 (F := Ideal) (iblk m c 0 t) (iblk m c 1 t) (iblk m c 2 t) (iblk m c 3 t) (iblk m c 6 t) (ix3 f b j)
      = Rigl.growAt (m (c, Proc.tc.devRef main_arg0)) (m (c, Proc.tc.devRef main_arg1)) (m (c, Proc.tc.devRef main_arg2)) (m (c, Proc.tc.devRef main_arg3))
          (m (c, Proc.tc.devRef main_arg6)) f b j := by
  unfold k0_pay5
  simp [pointwise]
  rw [act_eq]
  refine (select_bool _ _ _).trans (if_congr Iff.rfl rfl (congrArg Rigl.mag (Finset.sum_congr rfl fun n _ => ?_)))
  rw [in0, in1, in2, in3]
  simp only [Nat.mul_comm b.val 32]

theorem index7 : ∀ t : Fin cfg0.N, win0_7.index t 0 = 0 ∧ win0_7.index t 1 = 0 := (by decide +kernel : ∀ t : Fin grid0.N, win0_7.index t 0 = 0 ∧ win0_7.index t 1 = 0)
theorem index8 : ∀ t : Fin cfg0.N, win0_8.index t 0 = 0 ∧ win0_8.index t 1 = 0 := (by decide +kernel : ∀ t : Fin grid0.N, win0_8.index t 0 = 0 ∧ win0_8.index t 1 = 0)
theorem index9 : ∀ t : Fin cfg0.N, win0_9.index t 0 = 0 ∧ win0_9.index t 1 = 0 := (by decide +kernel : ∀ t : Fin grid0.N, win0_9.index t 0 = 0 ∧ win0_9.index t 1 = 0)
theorem index10 : ∀ t : Fin cfg0.N, win0_10.index t 0 = 0 ∧ win0_10.index t 1 = 0 := (by decide +kernel : ∀ t : Fin grid0.N, win0_10.index t 0 = 0 ∧ win0_10.index t 1 = 0)

theorem pay9_eq (x0 : Vec Ideal S1536x3584 .fp8e4m3) (x1 : Vec Ideal S1536x1 .f32) (x2 : Vec Ideal S1536x18944 .fp8e5m2) (x3 : Vec Ideal S1536x1 .f32) (x4 : Vec Ideal S18944x3584 .i8) (x5 : Vec Ideal S18944x1 .f32) (x6 : Vec Ideal S18944x112x32 .i32) : k0_pay9 x0 x1 x2 x3 x4 x5 x6 = k0_pay4 (F := Ideal) x6 := by
  unfold k0_pay9
  exact congrArg (k0_pay4 (F := Ideal)) (View.ld_unit_zero (funext fun a => by fin_cases a <;> rfl) _ _)

theorem pay10_eq (x0 : Vec Ideal S1536x3584 .fp8e4m3) (x1 : Vec Ideal S1536x1 .f32) (x2 : Vec Ideal S1536x18944 .fp8e5m2) (x3 : Vec Ideal S1536x1 .f32) (x4 : Vec Ideal S18944x3584 .i8) (x5 : Vec Ideal S18944x1 .f32) (x6 : Vec Ideal S18944x112x32 .i32) : k0_pay10 x0 x1 x2 x3 x4 x5 x6 = k0_pay8 x4 := by
  unfold k0_pay10
  exact congrArg k0_pay8 (View.ld_unit_zero (funext fun a => by fin_cases a <;> rfl) _ _)

/-- The reference's magnitude of one weight. -/
theorem weight_eq (t : Fin cfg0.N) (f : Fin 18944) (b : Fin 112) (j : Fin 32) :
    k0_pay1 (F := Ideal) (k0_pay8 (iblk m c 4 t)) (iblk m c 5 t) (ix3 f b j) = Rigl.weight (m (c, Proc.tc.devRef main_arg4)) (m (c, Proc.tc.devRef main_arg5)) f b j := by
  unfold k0_pay1 k0_pay8
  simp [pointwise]
  rw [in5]
  refine congrArg₂ (fun (x : BitVec 8) (y : EReal) => Rigl.mag (Ideal.e4m3fn x) * y) ((in4 m c t f _).trans ?_) rfl
  exact congrArg (m (c, Proc.tc.devRef main_arg4)) (congrArg (ix2 f) (Fin.ext (by show b.val * 32 + j.val = 32 * b.val + j.val; omega)))

/-- Result 1 of the reference. -/
theorem arr7 : (dats m 0 c).arrAt 7 cfg0.N = fun y => Rigl.growMax (m (c, Proc.tc.devRef main_arg0)) (m (c, Proc.tc.devRef main_arg1)) (m (c, Proc.tc.devRef main_arg2)) (m (c, Proc.tc.devRef main_arg3)) (m (c, Proc.tc.devRef main_arg6)) (y 0) (y 1) := by
  refine (dats m 0 c).arrAt_eq_of_covers 7 _ (by decide +kernel) fun t hf y => ?_
  blk_simp
  rw [after0_7]
  frame_out
  obtain ⟨r, b, rfl⟩ : ∃ (r : Fin 592) (b : Fin 112), y = ix2 r b := ⟨y 0, y 1, eq_ix2 y⟩
  have e0 : ((View.whole main_v15_0).slice (win0_7.rect t)).emb (ix2 r b) 0 = r := Fin.ext (by
    show win0_7.index t 0 * 592 + 1 * r.val = r.val
    rw [(index7 t).1]; omega)
  have e1 : ((View.whole main_v15_0).slice (win0_7.rect t)).emb (ix2 r b) 1 = b := Fin.ext (by
    show win0_7.index t 1 * 112 + 1 * b.val = b.val
    rw [(index7 t).2]; omega)
  refine Eq.trans ?_ (congrArg₂ (Rigl.growMax _ _ _ _ _) e0 e1).symm
  refine (pay7_apply ..).trans (Finset.sup_congr (α := EReal) rfl fun i _ => Finset.sup_congr (α := EReal) rfl fun j _ => grow_eq m c t _ b j)
/-- Result 2 of the reference. -/
theorem arr8 : (dats m 0 c).arrAt 8 cfg0.N = fun y => Rigl.grow (m (c, Proc.tc.devRef main_arg0)) (m (c, Proc.tc.devRef main_arg1)) (m (c, Proc.tc.devRef main_arg2)) (m (c, Proc.tc.devRef main_arg3)) (m (c, Proc.tc.devRef main_arg6)) (y 0) (y 1) := by
  refine (dats m 0 c).arrAt_eq_of_covers 8 _ (by decide +kernel) fun t hf y => ?_
  blk_simp
  rw [after0_8]
  frame_out
  obtain ⟨r, b, rfl⟩ : ∃ (r : Fin 18944) (b : Fin 112), y = ix2 r b := ⟨y 0, y 1, eq_ix2 y⟩
  have e0 : ((View.whole main_v15_1).slice (win0_8.rect t)).emb (ix2 r b) 0 = r := Fin.ext (by
    show win0_8.index t 0 * 18944 + 1 * r.val = r.val
    rw [(index8 t).1]; omega)
  have e1 : ((View.whole main_v15_1).slice (win0_8.rect t)).emb (ix2 r b) 1 = b := Fin.ext (by
    show win0_8.index t 1 * 112 + 1 * b.val = b.val
    rw [(index8 t).2]; omega)
  refine Eq.trans ?_ (congrArg₂ (Rigl.grow _ _ _ _ _) e0 e1).symm
  exact (pay6_apply ..).trans (Finset.sum_congr rfl fun j _ => grow_eq m c t r b j)
/-- Result 4 of the reference. -/
theorem arr10 : (dats m 0 c).arrAt 10 cfg0.N = fun y => Rigl.dropSum (m (c, Proc.tc.devRef main_arg4)) (m (c, Proc.tc.devRef main_arg5)) (m (c, Proc.tc.devRef main_arg6)) (y 0) (y 1) := by
  refine (dats m 0 c).arrAt_eq_of_covers 10 _ (by decide +kernel) fun t hf y => ?_
  blk_simp
  rw [after0_10]
  frame_out
  obtain ⟨r, b, rfl⟩ : ∃ (r : Fin 592) (b : Fin 112), y = ix2 r b := ⟨y 0, y 1, eq_ix2 y⟩
  have e0 : ((View.whole main_v15_3).slice (win0_10.rect t)).emb (ix2 r b) 0 = r := Fin.ext (by
    show win0_10.index t 0 * 592 + 1 * r.val = r.val
    rw [(index10 t).1]; omega)
  have e1 : ((View.whole main_v15_3).slice (win0_10.rect t)).emb (ix2 r b) 1 = b := Fin.ext (by
    show win0_10.index t 1 * 112 + 1 * b.val = b.val
    rw [(index10 t).2]; omega)
  refine Eq.trans ?_ (congrArg₂ (Rigl.dropSum _ _ _) e0 e1).symm
  rw [pay9_eq, pay10_eq]
  refine (pay3_apply ..).trans (Finset.sum_congr rfl fun i _ => Finset.sum_congr rfl fun j _ => ?_)
  rw [act_eq, weight_eq]
  exact select_bool _ _ _
/-- Result 3 of the reference. -/
theorem arr9 (hs : ∀ f : Fin 18944, (0 : EReal) ≤ m (c, Proc.tc.devRef main_arg5) (ix1 f)) : (dats m 0 c).arrAt 9 cfg0.N = fun y => Rigl.dropMin (m (c, Proc.tc.devRef main_arg4)) (m (c, Proc.tc.devRef main_arg5)) (m (c, Proc.tc.devRef main_arg6)) (y 0) (y 1) := by
  refine (dats m 0 c).arrAt_eq_of_covers 9 _ (by decide +kernel) fun t hf y => ?_
  blk_simp
  rw [after0_9]
  frame_out
  obtain ⟨r, b, rfl⟩ : ∃ (r : Fin 592) (b : Fin 112), y = ix2 r b := ⟨y 0, y 1, eq_ix2 y⟩
  have e0 : ((View.whole main_v15_2).slice (win0_9.rect t)).emb (ix2 r b) 0 = r := Fin.ext (by
    show win0_9.index t 0 * 592 + 1 * r.val = r.val
    rw [(index9 t).1]; omega)
  have e1 : ((View.whole main_v15_2).slice (win0_9.rect t)).emb (ix2 r b) 1 = b := Fin.ext (by
    show win0_9.index t 1 * 112 + 1 * b.val = b.val
    rw [(index9 t).2]; omega)
  refine Eq.trans ?_ (congrArg₂ (Rigl.dropMin _ _ _) e0 e1).symm
  rw [pay9_eq, pay10_eq]
  refine (pay2_apply ..).trans ?_
  have e : minV (k0_pay4 (F := Ideal) (iblk m c 6 t)) (k0_pay8 (iblk m c 4 t)) (iblk m c 5 t) r b = Rigl.dropInf (m (c, Proc.tc.devRef main_arg4)) (m (c, Proc.tc.devRef main_arg5)) (m (c, Proc.tc.devRef main_arg6)) r b := by
    refine Finset.inf_congr (α := EReal) rfl fun i _ => Finset.inf_congr (α := EReal) rfl fun j _ => ?_
    rw [act_eq, weight_eq]
    exact select_bool _ _ _
  rw [e]
  unfold Rigl.dropMin
  rw [Rigl.mag_of_nonneg (Rigl.dropInf_nonneg _ _ _ hs r b)]
end Cert.ReferenceIdeal.Val
-- ==== Proof.Pre.lean ====
/- What the precondition says of the arguments: no weight is a NaN code, and the weights' scales are not negative. -/
module
public import proofs.«01_k».proof.Proof.Gen.Pre_sane_w
public import Idealize.ShloMosaic.Lib.Pointwise
public import Idealize.ShloMosaic.Lib.ReduceAll
public import Idealize.ShloMosaic.Lib.Affine
@[expose] public section
noncomputable section
namespace Cert.Pre_sane_w
open Idealize.ShloMosaic

/-- A byte whose low seven bits are not all ones, read from its 32-bit extension. -/
theorem byte_ne (b : BitVec 8) (h : BitVec.setWidth 32 b &&& 127#32 ≠ 127#32) : b &&& 127#8 ≠ 127#8 := fun e => h (by
  have := congrArg (BitVec.setWidth 32) e
  rw [BitVec.setWidth_and] at this
  exact this)

/-- The precondition, element by element: no weight is a NaN code, no scale is negative. -/
theorem sane [Facts] (a0 : FVec Ideal S6x256x3584 .fp8e4m3) (a1 : FVec Ideal S6x256 .f32) (a2 : FVec Ideal S6x256x18944 .fp8e5m2) (a3 : FVec Ideal S6x256 .f32)
    (a4 : IVec S18944x3584 8) (a5 : FVec Ideal S18944 .f32) (a6 : IVec S18944x448 8) (h : fn (F := Ideal) a0 a1 a2 a3 a4 a5 a6 = fun _ => 1#1) :
    (∀ f d, a4 (ix2 f d) &&& 127#8 ≠ 127#8) ∧ ∀ f, (0 : EReal) ≤ a5 (ix1 f) := by
  have h0 := congrFun h (fun a => a.elim0)
  dsimp only [fn] at h0
  obtain ⟨hw, hs⟩ := IntOp.andi_eq_one.mp h0
  refine ⟨fun f d => ?_, fun f => ?_⟩
  · have := Host.reduce_andi_all _ _ _ _ _ hw (ix2 f d)
    refine byte_ne _ ?_
    exact IntOp.cmpi_ne.mp this
  · have := Host.reduce_andi_all _ _ _ _ _ hs (ix1 f)
    simp [pointwise] at this
    have key : ∀ b : Bool, BitVec.ofBool b = 1#1 → b = true := by decide
    exact of_decide_eq_true (key _ this)
end Cert.Pre_sane_w
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Gen.Pre_sane_w
public import proofs.«01_k».proof.Proof.KDrop
public import proofs.«01_k».proof.Proof.Ref
public import proofs.«01_k».proof.Proof.Pre

@[expose] public section

namespace Cert.Proof
open Idealize.ShloMosaic Idealize.ShloMosaic.TcCoe Idealize.SL.Sem

section congr
variable {x x' : Vec Ideal ⟨3, ![6, 256, 3584]⟩ .fp8e4m3} {xs xs' : Vec Ideal ⟨2, ![6, 256]⟩ .f32} {dy dy' : Vec Ideal ⟨3, ![6, 256, 18944]⟩ .fp8e5m2}
  {ds ds' : Vec Ideal ⟨2, ![6, 256]⟩ .f32} {w w' : Vec Ideal ⟨2, ![18944, 3584]⟩ .i8} {ws ws' : Vec Ideal ⟨1, ![18944]⟩ .f32}
  {mk mk' : Vec Ideal ⟨2, ![18944, 448]⟩ .i8}

/-! Equal arguments have equal scores. -/

theorem growMax_congr (h0 : x' = x) (h1 : xs' = xs) (h2 : dy' = dy) (h3 : ds' = ds) (h6 : mk' = mk) (r : Fin 592) (c : Fin 112) :
    Rigl.growMax x' xs' dy' ds' mk' r c = Rigl.growMax x xs dy ds mk r c := by subst h0 h1 h2 h3 h6; rfl

theorem grow_congr (h0 : x' = x) (h1 : xs' = xs) (h2 : dy' = dy) (h3 : ds' = ds) (h6 : mk' = mk) (f : Fin 18944) (c : Fin 112) :
    Rigl.grow x' xs' dy' ds' mk' f c = Rigl.grow x xs dy ds mk f c := by subst h0 h1 h2 h3 h6; rfl

theorem dropMin_congr (h4 : w' = w) (h5 : ws' = ws) (h6 : mk' = mk) (r : Fin 592) (c : Fin 112) :
    Rigl.dropMin w' ws' mk' r c = Rigl.dropMin w ws mk r c := by subst h4 h5 h6; rfl

theorem dropSum_congr (h4 : w' = w) (h5 : ws' = ws) (h6 : mk' = mk) (r : Fin 592) (c : Fin 112) :
    Rigl.dropSum w' ws' mk' r c = Rigl.dropSum w ws mk r c := by subst h4 h5 h6; rfl

theorem nonneg_of_eq (h5 : ws' = ws) (h : ∀ f, (0 : EReal) ≤ ws (ix1 f)) (f : Fin 18944) : (0 : EReal) ≤ ws' (ix1 f) := by subst h5; exact h f
end congr

/-- The kernel's four results are the scores of `Spec.lean`, and the reference's are the same scores. -/
theorem algebraic : Cert.algebraic_KernelIdeal_ReferenceIdeal_pre_sane_w (hKernelIdeal := Cert.KernelIdeal.Gen.facts) (hReferenceIdeal := Cert.ReferenceIdeal.Gen.facts)
    (hPre_sane_w := Cert.Pre_sane_w.Gen.facts) := by
  intro m g m' g' hpre hagree
  have hk (c : Dev Cert.KernelIdeal.nD) := @Cert.Pre_sane_w.sane Cert.Pre_sane_w.Gen.facts _ _ _ _ _ _ _ (hpre c)
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ?_) (Cert.ReferenceIdeal.Value.run_blocks m' g')
  obtain ⟨h0, h1, h2, h3, hargs⟩ := h c
  obtain ⟨e0, e1, e2, e3, e4, e5, e6⟩ := hagree c
  refine ⟨h0.trans ?_, h1.trans ?_, h2.trans ?_, h3.trans ?_, hargs⟩
  · exact (Cert.ReferenceIdeal.Val.arr7 m' c).trans (Eq.trans (funext fun y => growMax_congr e0 e1 e2 e3 e6 (y 0) (y 1)) (Cert.KernelIdeal.Pay.arr6 m c).symm)
  · exact (Cert.ReferenceIdeal.Val.arr8 m' c).trans (Eq.trans (funext fun y => grow_congr e0 e1 e2 e3 e6 (y 0) (y 1)) (Cert.KernelIdeal.Pay.arr7 m c).symm)
  · exact (Cert.ReferenceIdeal.Val.arr9 m' c (nonneg_of_eq e5 (hk c).2)).trans
      (Eq.trans (funext fun y => dropMin_congr e4 e5 e6 (y 0) (y 1)) (Cert.KernelIdeal.Pay.arr8 m c (hk c).1 (hk c).2).symm)
  · exact (Cert.ReferenceIdeal.Val.arr10 m' c).trans (Eq.trans (funext fun y => dropSum_congr e4 e5 e6 (y 0) (y 1)) (Cert.KernelIdeal.Pay.arr9 m c (hk c).1).symm)

/-- All the claims. -/
theorem claim : Cert.Claim :=
  ⟨Cert.Kernel.Gen.facts, Cert.KernelIdeal.Gen.facts, Cert.ReferenceIdeal.Gen.facts, Cert.Pre_sane_w.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof
